-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S10000x5 : Shape := ⟨2, ![10000, 5]⟩
abbrev S5000x4 : Shape := ⟨2, ![5000, 4]⟩
abbrev S5000 : Shape := ⟨1, ![5000]⟩
abbrev S_ : Shape := ⟨0, ![]⟩
abbrev S360 : Shape := ⟨1, ![360]⟩
abbrev S10000x1 : Shape := ⟨2, ![10000, 1]⟩
abbrev S10000 : Shape := ⟨1, ![10000]⟩
abbrev S5000x1 : Shape := ⟨2, ![5000, 1]⟩
abbrev S15360 : Shape := ⟨1, ![15360]⟩
abbrev S1x15360 : Shape := ⟨2, ![1, 15360]⟩
abbrev S8x15360 : Shape := ⟨2, ![8, 15360]⟩
abbrev S15360x1 : Shape := ⟨2, ![15360, 1]⟩
abbrev S4x15360 : Shape := ⟨2, ![4, 15360]⟩
abbrev S15360x4 : Shape := ⟨2, ![15360, 4]⟩
abbrev S128x4 : Shape := ⟨2, ![128, 4]⟩
abbrev S128x1 : Shape := ⟨2, ![128, 1]⟩
abbrev S1x128 : Shape := ⟨2, ![1, 128]⟩
abbrev S128x128 : Shape := ⟨2, ![128, 128]⟩
abbrev S1x1x128 : Shape := ⟨3, ![1, 1, 128]⟩
abbrev S1 : Shape := ⟨1, ![1]⟩
abbrev S1x1x1 : Shape := ⟨3, ![1, 1, 1]⟩
abbrev S1x512 : Shape := ⟨2, ![1, 512]⟩
abbrev S128x512 : Shape := ⟨2, ![128, 512]⟩
abbrev S512 : Shape := ⟨1, ![512]⟩
abbrev S2x15360 : Shape := ⟨2, ![2, 15360]⟩
abbrev S5x15360 : Shape := ⟨2, ![5, 15360]⟩
abbrev S5x15000 : Shape := ⟨2, ![5, 15000]⟩
abbrev S15000x5 : Shape := ⟨2, ![15000, 5]⟩

abbrev nBuf : Space → Nat
  | .hbm => 84
  | .vmem => 18
  | .smem => 0
  | _ => 0

abbrev bufTy : (tb : Table) → Fin (tcTables nBuf tb) → BufTy
  | .hbm, ⟨0, _⟩ => ⟨S10000x5, .f32⟩
  | .hbm, ⟨1, _⟩ => ⟨S5000x4, .f32⟩
  | .hbm, ⟨2, _⟩ => ⟨S5000, .f32⟩
  | .hbm, ⟨3, _⟩ => ⟨S_, .f32⟩
  | .hbm, ⟨4, _⟩ => ⟨S360, .f32⟩
  | .hbm, ⟨5, _⟩ => ⟨S10000x1, .f32⟩
  | .hbm, ⟨6, _⟩ => ⟨S10000, .f32⟩
  | .hbm, ⟨7, _⟩ => ⟨S5000x1, .f32⟩
  | .hbm, ⟨8, _⟩ => ⟨S5000, .f32⟩
  | .hbm, ⟨9, _⟩ => ⟨S15360, .f32⟩
  | .hbm, ⟨10, _⟩ => ⟨S1x15360, .f32⟩
  | .hbm, ⟨11, _⟩ => ⟨S10000x1, .f32⟩
  | .hbm, ⟨12, _⟩ => ⟨S10000, .f32⟩
  | .hbm, ⟨13, _⟩ => ⟨S5000x1, .f32⟩
  | .hbm, ⟨14, _⟩ => ⟨S5000, .f32⟩
  | .hbm, ⟨15, _⟩ => ⟨S15360, .f32⟩
  | .hbm, ⟨16, _⟩ => ⟨S1x15360, .f32⟩
  | .hbm, ⟨17, _⟩ => ⟨S10000x1, .f32⟩
  | .hbm, ⟨18, _⟩ => ⟨S10000, .f32⟩
  | .hbm, ⟨19, _⟩ => ⟨S5000x1, .f32⟩
  | .hbm, ⟨20, _⟩ => ⟨S5000, .f32⟩
  | .hbm, ⟨21, _⟩ => ⟨S15360, .f32⟩
  | .hbm, ⟨22, _⟩ => ⟨S1x15360, .f32⟩
  | .hbm, ⟨23, _⟩ => ⟨S10000x1, .f32⟩
  | .hbm, ⟨24, _⟩ => ⟨S10000, .f32⟩
  | .hbm, ⟨25, _⟩ => ⟨S5000x1, .f32⟩
  | .hbm, ⟨26, _⟩ => ⟨S5000, .f32⟩
  | .hbm, ⟨27, _⟩ => ⟨S15360, .f32⟩
  | .hbm, ⟨28, _⟩ => ⟨S1x15360, .f32⟩
  | .hbm, ⟨29, _⟩ => ⟨S10000x1, .f32⟩
  | .hbm, ⟨30, _⟩ => ⟨S10000, .f32⟩
  | .hbm, ⟨31, _⟩ => ⟨S15360, .f32⟩
  | .hbm, ⟨32, _⟩ => ⟨S1x15360, .f32⟩
  | .hbm, ⟨33, _⟩ => ⟨S_, .f32⟩
  | .hbm, ⟨34, _⟩ => ⟨S10000, .f32⟩
  | .hbm, ⟨35, _⟩ => ⟨S_, .f32⟩
  | .hbm, ⟨36, _⟩ => ⟨S5000, .f32⟩
  | .hbm, ⟨37, _⟩ => ⟨S15360, .f32⟩
  | .hbm, ⟨38, _⟩ => ⟨S1x15360, .f32⟩
  | .hbm, ⟨39, _⟩ => ⟨S_, .f32⟩
  | .hbm, ⟨40, _⟩ => ⟨S10000, .f32⟩
  | .hbm, ⟨41, _⟩ => ⟨S_, .f32⟩
  | .hbm, ⟨42, _⟩ => ⟨S5000, .f32⟩
  | .hbm, ⟨43, _⟩ => ⟨S15360, .f32⟩
  | .hbm, ⟨44, _⟩ => ⟨S1x15360, .f32⟩
  | .hbm, ⟨45, _⟩ => ⟨S8x15360, .f32⟩
  | .hbm, ⟨46, _⟩ => ⟨S1x15360, .f32⟩
  | .hbm, ⟨47, _⟩ => ⟨S15360, .f32⟩
  | .hbm, ⟨48, _⟩ => ⟨S15360, .i32⟩
  | .hbm, ⟨49, _⟩ => ⟨S15360, .f32⟩
  | .hbm, ⟨50, _⟩ => ⟨S15360, .i32⟩
  | .hbm, ⟨51, _⟩ => ⟨S_, .i32⟩
  | .hbm, ⟨52, _⟩ => ⟨S15360, .i32⟩
  | .hbm, ⟨53, _⟩ => ⟨S15360, .i1⟩
  | .hbm, ⟨54, _⟩ => ⟨S_, .i32⟩
  | .hbm, ⟨55, _⟩ => ⟨S15360, .i32⟩
  | .hbm, ⟨56, _⟩ => ⟨S15360, .i32⟩
  | .hbm, ⟨57, _⟩ => ⟨S15360, .i32⟩
  | .hbm, ⟨58, _⟩ => ⟨S15360x1, .i32⟩
  | .hbm, ⟨59, _⟩ => ⟨S8x15360, .f32⟩
  | .hbm, ⟨60, _⟩ => ⟨S4x15360, .f32⟩
  | .hbm, ⟨61, _⟩ => ⟨S15360x4, .f32⟩
  | .hbm, ⟨62, _⟩ => ⟨S1x15360, .f32⟩
  | .hbm, ⟨63, _⟩ => ⟨S1x15360, .f32⟩
  | .hbm, ⟨64, _⟩ => ⟨S1x15360, .f32⟩
  | .hbm, ⟨65, _⟩ => ⟨S1x15360, .f32⟩
  | .hbm, ⟨66, _⟩ => ⟨S1x15360, .f32⟩
  | .hbm, ⟨67, _⟩ => ⟨S1x15360, .f32⟩
  | .hbm, ⟨68, _⟩ => ⟨S8x15360, .f32⟩
  | .hbm, ⟨69, _⟩ => ⟨S15360, .i32⟩
  | .hbm, ⟨70, _⟩ => ⟨S15360, .i32⟩
  | .hbm, ⟨71, _⟩ => ⟨S15360, .i32⟩
  | .hbm, ⟨72, _⟩ => ⟨S5x15360, .f32⟩
  | .hbm, ⟨73, _⟩ => ⟨S_, .i32⟩
  | .hbm, ⟨74, _⟩ => ⟨S15360, .i32⟩
  | .hbm, ⟨75, _⟩ => ⟨S15360, .i1⟩
  | .hbm, ⟨76, _⟩ => ⟨S_, .i32⟩
  | .hbm, ⟨77, _⟩ => ⟨S15360, .i32⟩
  | .hbm, ⟨78, _⟩ => ⟨S15360, .i32⟩
  | .hbm, ⟨79, _⟩ => ⟨S15360, .i32⟩
  | .hbm, ⟨80, _⟩ => ⟨S15360x1, .i32⟩
  | .hbm, ⟨81, _⟩ => ⟨S5x15360, .f32⟩
  | .hbm, ⟨82, _⟩ => ⟨S5x15000, .f32⟩
  | .hbm, ⟨83, _⟩ => ⟨S15000x5, .f32⟩
  | .local _ .vmem, ⟨0, _⟩ => ⟨S1x15360, .f32⟩
  | .local _ .vmem, ⟨1, _⟩ => ⟨S1x15360, .f32⟩
  | .local _ .vmem, ⟨2, _⟩ => ⟨S1x15360, .f32⟩
  | .local _ .vmem, ⟨3, _⟩ => ⟨S1x15360, .f32⟩
  | .local _ .vmem, ⟨4, _⟩ => ⟨S1x15360, .f32⟩
  | .local _ .vmem, ⟨5, _⟩ => ⟨S1x15360, .f32⟩
  | .local _ .vmem, ⟨6, _⟩ => ⟨S1x15360, .f32⟩
  | .local _ .vmem, ⟨7, _⟩ => ⟨S8x15360, .f32⟩
  | .local _ .vmem, ⟨8, _⟩ => ⟨S15360x4, .f32⟩
  | .local _ .vmem, ⟨9, _⟩ => ⟨S1x15360, .f32⟩
  | .local _ .vmem, ⟨10, _⟩ => ⟨S1x15360, .f32⟩
  | .local _ .vmem, ⟨11, _⟩ => ⟨S1x15360, .f32⟩
  | .local _ .vmem, ⟨12, _⟩ => ⟨S1x15360, .f32⟩
  | .local _ .vmem, ⟨13, _⟩ => ⟨S1x15360, .f32⟩
  | .local _ .vmem, ⟨14, _⟩ => ⟨S1x15360, .f32⟩
  | .local _ .vmem, ⟨15, _⟩ => ⟨S8x15360, .f32⟩
  | .local _ .vmem, ⟨16, _⟩ => ⟨S1x15360, .f32⟩
  | .local _ .vmem, ⟨17, _⟩ => ⟨S1x15360, .f32⟩
  | _, _ => ⟨S10000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call0_v0 : Ref sig .tc := ⟨.hbm, 48, rfl⟩
abbrev main_call0_v1_0 : Ref sig .tc := ⟨.hbm, 49, rfl⟩
abbrev main_v40 : Ref sig .tc := ⟨.hbm, 50, rfl⟩
abbrev main_c : Ref sig .tc := ⟨.hbm, 51, rfl⟩
abbrev main_v41 : Ref sig .tc := ⟨.hbm, 52, rfl⟩
abbrev main_v42 : Ref sig .tc := ⟨.hbm, 53, rfl⟩
abbrev main_c_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call1_v0 : Ref sig .tc := ⟨.hbm, 69, rfl⟩
abbrev main_call1_v1_0 : Ref sig .tc := ⟨.hbm, 70, rfl⟩
abbrev main_v57 : Ref sig .tc := ⟨.hbm, 71, rfl⟩
abbrev main_v58 : Ref sig .tc := ⟨.hbm, 72, rfl⟩
abbrev main_c_5 : Ref sig .tc := ⟨.hbm, 73, rfl⟩
abbrev main_v59 : Ref sig .tc := ⟨.hbm, 74, rfl⟩
abbrev main_v60 : Ref sig .tc := ⟨.hbm, 75, rfl⟩
abbrev main_c_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := .none

abbrev stage0_0 : Fin 1 → Memref sig .tc .vmem S1x15360 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x15360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x15360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x15360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x15360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x15360 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x15360 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x15360 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c120_i32 : BitVec 32 := 120#32
  let v23 : BitVec 32 := Scalar.addi c0_i32 c120_i32
  let c1_i32 : BitVec 32 := 1#32
  ⟨c0_i32, v23, c1_i32⟩
def k1_off1 (k1_t1 : Fin k1_t1_loop.trips) : Fin 2 → Nat :=
  let c0_i32 : BitVec 32 := 0#32
  let c1_i32 : BitVec 32 := 1#32
  let arg10 : BitVec 32 := Scf.iv c0_i32 c1_i32 k1_t1
  let c128_i32 : BitVec 32 := 128#32
  let v49 : BitVec 32 := Scalar.muli arg10 c128_i32
  let v50 : Index := Scalar.indexCast v49
  let c0_31 : Index := 0#32
  ![v50.toNat, 0]
def k1_off2 (k1_t1 : Fin k1_t1_loop.trips) : Fin 2 → Nat :=
  let c0_34 : Index := 0#32
  let c0_i32 : BitVec 32 := 0#32
  let c1_i32 : BitVec 32 := 1#32
  let arg10 : BitVec 32 := Scf.iv c0_i32 c1_i32 k1_t1
  let c128_i32 : BitVec 32 := 128#32
  let v49 : BitVec 32 := Scalar.muli arg10 c128_i32
  let v64 : Index := Scalar.indexCast v49
  ![0, v64.toNat]
@[reducible] def k1_t2_loop (k1_t1 : Fin k1_t1_loop.trips) : Scf.Loop 32 :=
  let c0_i32 : BitVec 32 := 0#32
  let c1_i32 : BitVec 32 := 1#32
  let arg10 : BitVec 32 := Scf.iv c0_i32 c1_i32 k1_t1
  let c128_i32 : BitVec 32 := 128#32
  let v49 : BitVec 32 := Scalar.muli arg10 c128_i32
  let c128_i32_53 : BitVec 32 := 128#32
  let v132 : BitVec 32 := Scalar.addi v49 c128_i32_53
  let c0_i32_54 : BitVec 32 := 0#32
  let v134 : BitVec 1 := Scalar.cmpi .sgt v132 c0_i32_54
  let v135 : BitVec 32 := Scalar.extui v134
  let c0_i32_55 : BitVec 32 := 0#32
  let v136 : BitVec 1 := Scalar.cmpi .slt v132 c0_i32_55
  let v137 : BitVec 32 := Scalar.extui v136
  let v138 : BitVec 32 := Scalar.subi v135 v137
  let c512_i32 : BitVec 32 := 512#32
  let c0_i32_56 : BitVec 32 := 0#32
  let v139 : BitVec 1 := Scalar.cmpi .sgt c512_i32 c0_i32_56
  let v140 : BitVec 32 := Scalar.extui v139
  let c0_i32_57 : BitVec 32 := 0#32
  let v141 : BitVec 1 := Scalar.cmpi .slt c512_i32 c0_i32_57
  let v142 : BitVec 32 := Scalar.extui v141
  let v143 : BitVec 32 := Scalar.subi v140 v142
  let v144 : BitVec 1 := Scalar.cmpi .ne v138 v143
  let v145 : BitVec 32 := Scalar.remsi v132 c512_i32
  let c0_i32_58 : BitVec 32 := 0#32
  let v146 : BitVec 1 := Scalar.cmpi .ne v145 c0_i32_58
  let v147 : BitVec 1 := Scalar.andi v144 v146
  let v133 : BitVec 32 := Scalar.divsi v132 c512_i32
  let c1_i32_59 : BitVec 32 := 1#32
  let v148 : BitVec 32 := Scalar.subi v133 c1_i32_59
  let v149 : BitVec 32 := Scalar.select v147 v148 v133
  let c30_i32 : BitVec 32 := 30#32
  let v150 : BitVec 32 := Scalar.subi c30_i32 v149
  let c1_i32_61 : BitVec 32 := 1#32
  let v152 : BitVec 32 := Scalar.divsi v150 c1_i32_61
  let v153 : BitVec 32 := Scalar.muli v152 c1_i32_61
  let v154 : BitVec 32 := Scalar.addi v149 v153
  let c1_i32_62 : BitVec 32 := 1#32
  ⟨v149, v154, c1_i32_62⟩
def k1_off3 (k1_t1 : Fin k1_t1_loop.trips) (k1_t2 : Fin (k1_t2_loop k1_t1).trips) : Fin 2 → Nat :=
  let c0_65 : Index := 0#32
  let c0_i32 : BitVec 32 := 0#32
  let c1_i32 : BitVec 32 := 1#32
  let arg10 : BitVec 32 := Scf.iv c0_i32 c1_i32 k1_t1
  let c128_i32 : BitVec 32 := 128#32
  let v49 : BitVec 32 := Scalar.muli arg10 c128_i32
  let c128_i32_53 : BitVec 32 := 128#32
  let v132 : BitVec 32 := Scalar.addi v49 c128_i32_53
  let c0_i32_54 : BitVec 32 := 0#32
  let v134 : BitVec 1 := Scalar.cmpi .sgt v132 c0_i32_54
  let v135 : BitVec 32 := Scalar.extui v134
  let c0_i32_55 : BitVec 32 := 0#32
  let v136 : BitVec 1 := Scalar.cmpi .slt v132 c0_i32_55
  let v137 : BitVec 32 := Scalar.extui v136
  let v138 : BitVec 32 := Scalar.subi v135 v137
  let c512_i32 : BitVec 32 := 512#32
  let c0_i32_56 : BitVec 32 := 0#32
  let v139 : BitVec 1 := Scalar.cmpi .sgt c512_i32 c0_i32_56
  let v140 : BitVec 32 := Scalar.extui v139
  let c0_i32_57 : BitVec 32 := 0#32
  let v141 : BitVec 1 := Scalar.cmpi .slt c512_i32 c0_i32_57
  let v142 : BitVec 32 := Scalar.extui v141
  let v143 : BitVec 32 := Scalar.subi v140 v142
  let v144 : BitVec 1 := Scalar.cmpi .ne v138 v143
  let v145 : BitVec 32 := Scalar.remsi v132 c512_i32
  let c0_i32_58 : BitVec 32 := 0#32
  let v146 : BitVec 1 := Scalar.cmpi .ne v145 c0_i32_58
  let v147 : BitVec 1 := Scalar.andi v144 v146
  let v133 : BitVec 32 := Scalar.divsi v132 c512_i32
  let c1_i32_59 : BitVec 32 := 1#32
  let v148 : BitVec 32 := Scalar.subi v133 c1_i32_59
  let v149 : BitVec 32 := Scalar.select v147 v148 v133
  let c1_i32_62 : BitVec 32 := 1#32
  let arg11 : BitVec 32 := Scf.iv v149 c1_i32_62 k1_t2
  let c512_i32_64 : BitVec 32 := 512#32
  let v157 : BitVec 32 := Scalar.muli arg11 c512_i32_64
  let v158 : Index := Scalar.indexCast v157
  ![0, v158.toNat]
@[reducible] def k1_t3_loop (k1_t1 : Fin k1_t1_loop.trips) : Scf.Loop 32 :=
  let c0_i32 : BitVec 32 := 0#32
  let c1_i32 : BitVec 32 := 1#32
  let arg10 : BitVec 32 := Scf.iv c0_i32 c1_i32 k1_t1
  let c128_i32 : BitVec 32 := 128#32
  let v49 : BitVec 32 := Scalar.muli arg10 c128_i32
  let c128_i32_53 : BitVec 32 := 128#32
  let v132 : BitVec 32 := Scalar.addi v49 c128_i32_53
  let c0_i32_54 : BitVec 32 := 0#32
  let v134 : BitVec 1 := Scalar.cmpi .sgt v132 c0_i32_54
  let v135 : BitVec 32 := Scalar.extui v134
  let c0_i32_55 : BitVec 32 := 0#32
  let v136 : BitVec 1 := Scalar.cmpi .slt v132 c0_i32_55
  let v137 : BitVec 32 := Scalar.extui v136
  let v138 : BitVec 32 := Scalar.subi v135 v137
  let c512_i32 : BitVec 32 := 512#32
  let c0_i32_56 : BitVec 32 := 0#32
  let v139 : BitVec 1 := Scalar.cmpi .sgt c512_i32 c0_i32_56
  let v140 : BitVec 32 := Scalar.extui v139
  let c0_i32_57 : BitVec 32 := 0#32
  let v141 : BitVec 1 := Scalar.cmpi .slt c512_i32 c0_i32_57
  let v142 : BitVec 32 := Scalar.extui v141
  let v143 : BitVec 32 := Scalar.subi v140 v142
  let v144 : BitVec 1 := Scalar.cmpi .ne v138 v143
  let v145 : BitVec 32 := Scalar.remsi v132 c512_i32
  let c0_i32_58 : BitVec 32 := 0#32
  let v146 : BitVec 1 := Scalar.cmpi .ne v145 c0_i32_58
  let v147 : BitVec 1 := Scalar.andi v144 v146
  let v133 : BitVec 32 := Scalar.divsi v132 c512_i32
  let c1_i32_59 : BitVec 32 := 1#32
  let v148 : BitVec 32 := Scalar.subi v133 c1_i32_59
  let v149 : BitVec 32 := Scalar.select v147 v148 v133
  let c30_i32 : BitVec 32 := 30#32
  let v150 : BitVec 32 := Scalar.subi c30_i32 v149
  let c1_i32_61 : BitVec 32 := 1#32
  let v152 : BitVec 32 := Scalar.divsi v150 c1_i32_61
  let v153 : BitVec 32 := Scalar.muli v152 c1_i32_61
  let v154 : BitVec 32 := Scalar.addi v149 v153
  let v151 : BitVec 32 := Scalar.addi v149 v150
  let c1_i32_63 : BitVec 32 := 1#32
  ⟨v154, v151, c1_i32_63⟩
def k1_off4 (k1_t1 : Fin k1_t1_loop.trips) (k1_t3 : Fin (k1_t3_loop k1_t1).trips) : Fin 2 → Nat :=
  let c0_65 : Index := 0#32
  let c0_i32 : BitVec 32 := 0#32
  let c1_i32 : BitVec 32 := 1#32
  let arg10 : BitVec 32 := Scf.iv c0_i32 c1_i32 k1_t1
  let c128_i32 : BitVec 32 := 128#32
  let v49 : BitVec 32 := Scalar.muli arg10 c128_i32
  let c128_i32_53 : BitVec 32 := 128#32
  let v132 : BitVec 32 := Scalar.addi v49 c128_i32_53
  let c0_i32_54 : BitVec 32 := 0#32
  let v134 : BitVec 1 := Scalar.cmpi .sgt v132 c0_i32_54
  let v135 : BitVec 32 := Scalar.extui v134
  let c0_i32_55 : BitVec 32 := 0#32
  let v136 : BitVec 1 := Scalar.cmpi .slt v132 c0_i32_55
  let v137 : BitVec 32 := Scalar.extui v136
  let v138 : BitVec 32 := Scalar.subi v135 v137
  let c512_i32 : BitVec 32 := 512#32
  let c0_i32_56 : BitVec 32 := 0#32
  let v139 : BitVec 1 := Scalar.cmpi .sgt c512_i32 c0_i32_56
  let v140 : BitVec 32 := Scalar.extui v139
  let c0_i32_57 : BitVec 32 := 0#32
  let v141 : BitVec 1 := Scalar.cmpi .slt c512_i32 c0_i32_57
  let v142 : BitVec 32 := Scalar.extui v141
  let v143 : BitVec 32 := Scalar.subi v140 v142
  let v144 : BitVec 1 := Scalar.cmpi .ne v138 v143
  let v145 : BitVec 32 := Scalar.remsi v132 c512_i32
  let c0_i32_58 : BitVec 32 := 0#32
  let v146 : BitVec 1 := Scalar.cmpi .ne v145 c0_i32_58
  let v147 : BitVec 1 := Scalar.andi v144 v146
  let v133 : BitVec 32 := Scalar.divsi v132 c512_i32
  let c1_i32_59 : BitVec 32 := 1#32
  let v148 : BitVec 32 := Scalar.subi v133 c1_i32_59
  let v149 : BitVec 32 := Scalar.select v147 v148 v133
  let c30_i32 : BitVec 32 := 30#32
  let v150 : BitVec 32 := Scalar.subi c30_i32 v149
  let c1_i32_61 : BitVec 32 := 1#32
  let v152 : BitVec 32 := Scalar.divsi v150 c1_i32_61
  let v153 : BitVec 32 := Scalar.muli v152 c1_i32_61
  let v154 : BitVec 32 := Scalar.addi v149 v153
  let c1_i32_63 : BitVec 32 := 1#32
  let arg11 : BitVec 32 := Scf.iv v154 c1_i32_63 k1_t3
  let c512_i32_64 : BitVec 32 := 512#32
  let v157 : BitVec 32 := Scalar.muli arg11 c512_i32_64
  let v158 : Index := Scalar.indexCast v157
  ![0, v158.toNat]
abbrev stage1_0 : Fin 1 → Memref sig .tc .vmem S15360x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x15360 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x15360 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x15360 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x15360 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x15360 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x15360 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x15360 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S10000x5 : Shape := ⟨2, ![10000, 5]⟩
abbrev S5000x4 : Shape := ⟨2, ![5000, 4]⟩
abbrev S5000 : Shape := ⟨1, ![5000]⟩
abbrev S4 : Shape := ⟨1, ![4]⟩
abbrev S10000x4 : Shape := ⟨2, ![10000, 4]⟩
abbrev S2 : Shape := ⟨1, ![2]⟩
abbrev S10000x2 : Shape := ⟨2, ![10000, 2]⟩
abbrev S1x2 : Shape := ⟨2, ![1, 2]⟩
abbrev S_ : Shape := ⟨0, ![]⟩
abbrev S10000x1 : Shape := ⟨2, ![10000, 1]⟩
abbrev S10000 : Shape := ⟨1, ![10000]⟩
abbrev S15000x4 : Shape := ⟨2, ![15000, 4]⟩
abbrev S15000 : Shape := ⟨1, ![15000]⟩
abbrev S15000x1 : Shape := ⟨2, ![15000, 1]⟩
abbrev S15000x2 : Shape := ⟨2, ![15000, 2]⟩
abbrev S1 : Shape := ⟨1, ![1]⟩
abbrev S15000x5 : Shape := ⟨2, ![15000, 5]⟩

abbrev nBuf : Space → Nat
  | .hbm => 290
  | .vmem => 0
  | .smem => 0
  | _ => 0

abbrev hbmTy0_0 (i : Nat) : BufTy := match i % 128 with
  | 0 => ⟨S10000x5, .f32⟩
  | 1 => ⟨S5000x4, .f32⟩
  | 2 => ⟨S5000, .f32⟩
  | 3 => ⟨S4, .f32⟩
  | 4 => ⟨S10000x4, .f32⟩
  | 5 => ⟨S2, .f32⟩
  | 6 => ⟨S10000x2, .f32⟩
  | 7 => ⟨S1x2, .f32⟩
  | 8 => ⟨S10000x2, .f32⟩
  | 9 => ⟨S10000x2, .f32⟩
  | 10 => ⟨S2, .f32⟩
  | 11 => ⟨S10000x2, .f32⟩
  | 12 => ⟨S1x2, .f32⟩
  | 13 => ⟨S10000x2, .f32⟩
  | 14 => ⟨S10000x2, .f32⟩
  | 15 => ⟨S10000x2, .f32⟩
  | 16 => ⟨S_, .f32⟩
  | 17 => ⟨S_, .f32⟩
  | 18 => ⟨S10000x2, .f32⟩
  | 19 => ⟨S10000x2, .f32⟩
  | 20 => ⟨S10000x1, .f32⟩
  | 21 => ⟨S10000, .f32⟩
  | 22 => ⟨S10000x1, .f32⟩
  | 23 => ⟨S10000, .f32⟩
  | 24 => ⟨S10000, .f32⟩
  | 25 => ⟨S10000x1, .f32⟩
  | 26 => ⟨S10000, .f32⟩
  | 27 => ⟨S10000x1, .f32⟩
  | 28 => ⟨S10000, .f32⟩
  | 29 => ⟨S10000, .f32⟩
  | 30 => ⟨S_, .f32⟩
  | 31 => ⟨S_, .f32⟩
  | 32 => ⟨S10000, .f32⟩
  | 33 => ⟨S10000, .f32⟩
  | 34 => ⟨S10000x1, .f32⟩
  | 35 => ⟨S10000, .f32⟩
  | 36 => ⟨S10000x1, .f32⟩
  | 37 => ⟨S10000, .f32⟩
  | 38 => ⟨S10000, .f32⟩
  | 39 => ⟨S_, .f32⟩
  | 40 => ⟨S_, .f32⟩
  | 41 => ⟨S10000, .f32⟩
  | 42 => ⟨S10000, .f32⟩
  | 43 => ⟨S10000, .f32⟩
  | 44 => ⟨S_, .f32⟩
  | 45 => ⟨S10000, .f32⟩
  | 46 => ⟨S10000, .f32⟩
  | 47 => ⟨S10000, .f32⟩
  | 48 => ⟨S_, .f32⟩
  | 49 => ⟨S10000, .f32⟩
  | 50 => ⟨S10000, .i1⟩
  | 51 => ⟨S_, .f32⟩
  | 52 => ⟨S_, .f32⟩
  | 53 => ⟨S10000, .f32⟩
  | 54 => ⟨S10000, .f32⟩
  | 55 => ⟨S10000x1, .f32⟩
  | 56 => ⟨S10000, .f32⟩
  | 57 => ⟨S10000, .f32⟩
  | 58 => ⟨S10000x1, .f32⟩
  | 59 => ⟨S10000, .f32⟩
  | 60 => ⟨S_, .f32⟩
  | 61 => ⟨S_, .f32⟩
  | 62 => ⟨S_, .f32⟩
  | 63 => ⟨S10000, .f32⟩
  | 64 => ⟨S10000, .f32⟩
  | 65 => ⟨S_, .f32⟩
  | 66 => ⟨S10000, .f32⟩
  | 67 => ⟨S10000, .f32⟩
  | 68 => ⟨S10000x1, .f32⟩
  | 69 => ⟨S10000, .f32⟩
  | 70 => ⟨S_, .f32⟩
  | 71 => ⟨S_, .f32⟩
  | 72 => ⟨S_, .f32⟩
  | 73 => ⟨S10000, .f32⟩
  | 74 => ⟨S10000, .f32⟩
  | 75 => ⟨S_, .f32⟩
  | 76 => ⟨S10000, .f32⟩
  | 77 => ⟨S10000, .f32⟩
  | 78 => ⟨S10000x1, .f32⟩
  | 79 => ⟨S10000, .f32⟩
  | 80 => ⟨S_, .f32⟩
  | 81 => ⟨S_, .f32⟩
  | 82 => ⟨S_, .f32⟩
  | 83 => ⟨S10000, .f32⟩
  | 84 => ⟨S10000, .f32⟩
  | 85 => ⟨S_, .f32⟩
  | 86 => ⟨S10000, .f32⟩
  | 87 => ⟨S10000, .f32⟩
  | 88 => ⟨S10000x1, .f32⟩
  | 89 => ⟨S10000, .f32⟩
  | 90 => ⟨S_, .f32⟩
  | 91 => ⟨S_, .f32⟩
  | 92 => ⟨S_, .f32⟩
  | 93 => ⟨S10000, .f32⟩
  | 94 => ⟨S10000, .f32⟩
  | 95 => ⟨S_, .f32⟩
  | 96 => ⟨S10000, .f32⟩
  | 97 => ⟨S10000, .f32⟩
  | 98 => ⟨S10000x1, .f32⟩
  | 99 => ⟨S10000x1, .f32⟩
  | 100 => ⟨S10000x1, .f32⟩
  | 101 => ⟨S10000x1, .f32⟩
  | 102 => ⟨S10000x4, .f32⟩
  | 103 => ⟨S5000, .f32⟩
  | 104 => ⟨S5000, .f32⟩
  | 105 => ⟨S_, .f32⟩
  | 106 => ⟨S5000, .f32⟩
  | 107 => ⟨S5000, .f32⟩
  | 108 => ⟨S_, .f32⟩
  | 109 => ⟨S5000, .f32⟩
  | 110 => ⟨S5000, .f32⟩
  | 111 => ⟨S15000x4, .f32⟩
  | 112 => ⟨S15000, .f32⟩
  | 113 => ⟨S_, .f32⟩
  | 114 => ⟨S15000, .f32⟩
  | 115 => ⟨S15000, .i1⟩
  | 116 => ⟨S_, .f32⟩
  | 117 => ⟨S_, .f32⟩
  | 118 => ⟨S15000, .f32⟩
  | 119 => ⟨S15000, .f32⟩
  | 120 => ⟨S15000, .f32⟩
  | 121 => ⟨S15000, .i32⟩
  | 122 => ⟨S15000, .f32⟩
  | 123 => ⟨S15000, .i32⟩
  | 124 => ⟨S_, .i32⟩
  | 125 => ⟨S15000, .i32⟩
  | 126 => ⟨S15000, .i1⟩
  | 127 => ⟨S_, .i32⟩
  | _ => ⟨S10000x5, .f32⟩

abbrev hbmTy0_1 (i : Nat) : BufTy := match i % 128 with
  | 0 => ⟨S15000, .i32⟩
  | 1 => ⟨S15000, .i32⟩
  | 2 => ⟨S15000, .i32⟩
  | 3 => ⟨S15000x1, .i32⟩
  | 4 => ⟨S15000x4, .f32⟩
  | 5 => ⟨S15000x1, .f32⟩
  | 6 => ⟨S15000, .f32⟩
  | 7 => ⟨S15000x1, .f32⟩
  | 8 => ⟨S15000, .f32⟩
  | 9 => ⟨S15000, .f32⟩
  | 10 => ⟨S_, .f32⟩
  | 11 => ⟨S_, .f32⟩
  | 12 => ⟨S15000, .f32⟩
  | 13 => ⟨S15000, .f32⟩
  | 14 => ⟨S15000x1, .f32⟩
  | 15 => ⟨S15000, .f32⟩
  | 16 => ⟨S15000x1, .f32⟩
  | 17 => ⟨S15000, .f32⟩
  | 18 => ⟨S15000, .f32⟩
  | 19 => ⟨S_, .f32⟩
  | 20 => ⟨S_, .f32⟩
  | 21 => ⟨S15000, .f32⟩
  | 22 => ⟨S15000, .f32⟩
  | 23 => ⟨S15000, .f32⟩
  | 24 => ⟨S_, .i32⟩
  | 25 => ⟨S15000, .i32⟩
  | 26 => ⟨S15000, .i1⟩
  | 27 => ⟨S_, .i32⟩
  | 28 => ⟨S15000, .i32⟩
  | 29 => ⟨S15000, .i32⟩
  | 30 => ⟨S15000, .i32⟩
  | 31 => ⟨S15000x1, .i32⟩
  | 32 => ⟨S15000, .i1⟩
  | 33 => ⟨S15000, .i32⟩
  | 34 => ⟨S_, .i32⟩
  | 35 => ⟨S_, .i32⟩
  | 36 => ⟨S15000x4, .f32⟩
  | 37 => ⟨S15000, .f32⟩
  | 38 => ⟨S15000, .i32⟩
  | 39 => ⟨S_, .i32⟩
  | 40 => ⟨S_, .i32⟩
  | 41 => ⟨S15000, .i1⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S1x2, .f32⟩
  | 61 => ⟨S2, .f32⟩
  | 62 => ⟨S15000x2, .f32⟩
  | 63 => ⟨S1x2, .f32⟩
  | 64 => ⟨S15000x2, .f32⟩
  | 65 => ⟨S15000x2, .f32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S1x2, .f32⟩
  | 81 => ⟨S2, .f32⟩
  | 82 => ⟨S15000x2, .f32⟩
  | 83 => ⟨S1x2, .f32⟩
  | 84 => ⟨S15000x2, .f32⟩
  | 85 => ⟨S15000x2, .f32⟩
  | 86 => ⟨S15000x2, .f32⟩
  | 87 => ⟨S_, .f32⟩
  | 88 => ⟨S_, .f32⟩
  | 89 => ⟨S15000x2, .f32⟩
  | 90 => ⟨S15000x2, .f32⟩
  | 91 => ⟨S15000x1, .f32⟩
  | 92 => ⟨S15000, .f32⟩
  | 93 => ⟨S15000x1, .f32⟩
  | 94 => ⟨S15000, .f32⟩
  | 95 => ⟨S15000, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1, .f32⟩
  | 103 => ⟨S_, .f32⟩
  | 104 => ⟨S15000, .f32⟩
  | 105 => ⟨S15000, .f32⟩
  | 106 => ⟨S15000, .f32⟩
  | 107 => ⟨S_, .f32⟩
  | 108 => ⟨S15000, .f32⟩
  | 109 => ⟨S15000, .f32⟩
  | 110 => ⟨S15000, .f32⟩
  | 111 => ⟨S_, .f32⟩
  | 112 => ⟨S15000, .f32⟩
  | 113 => ⟨S15000, .i1⟩
  | 114 => ⟨S_, .i32⟩
  | 115 => ⟨S15000, .i32⟩
  | 116 => ⟨S15000, .i1⟩
  | 117 => ⟨S15000, .i1⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1, .i1⟩
  | 125 => ⟨S_, .i1⟩
  | 126 => ⟨S15000, .i1⟩
  | 127 => ⟨S15000, .i1⟩
  | _ => ⟨S10000x5, .f32⟩

abbrev hbmTy0_2 (i : Nat) : BufTy := match i % 128 with
  | 0 => ⟨S15000, .i1⟩
  | 1 => ⟨S15000, .i1⟩
  | 2 => ⟨S_, .i32⟩
  | 3 => ⟨S_, .i32⟩
  | 4 => ⟨S_, .i1⟩
  | 5 => ⟨S15000, .i1⟩
  | 6 => ⟨S_, .i32⟩
  | 7 => ⟨S15000, .i32⟩
  | 8 => ⟨S15000, .i1⟩
  | 9 => ⟨S_, .i32⟩
  | 10 => ⟨S15000, .i32⟩
  | 11 => ⟨S15000, .i32⟩
  | 12 => ⟨S15000, .i32⟩
  | 13 => ⟨S15000x1, .i32⟩
  | 14 => ⟨S15000, .i1⟩
  | 15 => ⟨S15000, .f32⟩
  | 16 => ⟨S_, .f32⟩
  | 17 => ⟨S_, .f32⟩
  | 18 => ⟨S_, .f32⟩
  | 19 => ⟨S15000, .f32⟩
  | 20 => ⟨S15000, .f32⟩
  | 21 => ⟨S_, .f32⟩
  | 22 => ⟨S15000, .f32⟩
  | 23 => ⟨S15000, .f32⟩
  | 24 => ⟨S15000, .f32⟩
  | 25 => ⟨S15000, .f32⟩
  | 26 => ⟨S15000, .f32⟩
  | 27 => ⟨S15000, .f32⟩
  | 28 => ⟨S15000x1, .f32⟩
  | 29 => ⟨S15000x4, .f32⟩
  | 30 => ⟨S15000x4, .f32⟩
  | 31 => ⟨S15000, .f32⟩
  | 32 => ⟨S15000x1, .f32⟩
  | 33 => ⟨S15000x5, .f32⟩
  | _ => ⟨S10000x5, .f32⟩

abbrev hbmTy (i : Nat) : BufTy := match i / 128 with
  | 0 => hbmTy0_0 i
  | 1 => hbmTy0_1 i
  | 2 => hbmTy0_2 i
  | _ => ⟨S10000x5, .f32⟩

abbrev bufTy : (tb : Table) → Fin (tcTables nBuf tb) → BufTy
  | .hbm, ⟨i, _⟩ => hbmTy i
  | _, _ => ⟨S10000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_call2_v0 : Ref sig .tc := ⟨.hbm, 40, rfl⟩
abbrev main_call2_v1 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_call3_v0 : Ref sig .tc := ⟨.hbm, 52, rfl⟩
abbrev main_call3_v1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_cst_7 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_cst_9 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_10 : Ref sig .tc := ⟨.hbm, 80, rfl⟩
abbrev main_cst_11 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_12 : Ref sig .tc := ⟨.hbm, 90, rfl⟩
abbrev main_cst_13 : Ref sig .tc := ⟨.hbm, 91, rfl⟩
abbrev main_call7_v0 : Ref sig .tc := ⟨.hbm, 92, rfl⟩
abbrev main_call7_v1 : Ref sig .tc := ⟨.hbm, 93, rfl⟩
abbrev main_call7_v2 : Ref sig .tc := ⟨.hbm, 94, rfl⟩
abbrev main_call7_v3 : Ref sig .tc := ⟨.hbm, 95, rfl⟩
abbrev main_call7_v4 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_14 : Ref sig .tc := ⟨.hbm, 105, rfl⟩
abbrev main_v59 : Ref sig .tc := ⟨.hbm, 106, rfl⟩
abbrev main_v60 : Ref sig .tc := ⟨.hbm, 107, rfl⟩
abbrev main_cst_15 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_16 : Ref sig .tc := ⟨.hbm, 113, rfl⟩
abbrev main_v65 : Ref sig .tc := ⟨.hbm, 114, rfl⟩
abbrev main_v66 : Ref sig .tc := ⟨.hbm, 115, rfl⟩
abbrev main_cst_17 : Ref sig .tc := ⟨.hbm, 116, rfl⟩
abbrev main_call8_v0 : Ref sig .tc := ⟨.hbm, 117, rfl⟩
abbrev main_call8_v1 : Ref sig .tc := ⟨.hbm, 118, rfl⟩
abbrev main_v67 : Ref sig .tc := ⟨.hbm, 119, rfl⟩
abbrev main_v68 : Ref sig .tc := ⟨.hbm, 120, rfl⟩
abbrev main_call9_v0 : Ref sig .tc := ⟨.hbm, 121, rfl⟩
abbrev main_call9_v1_0 : Ref sig .tc := ⟨.hbm, 122, rfl⟩
abbrev main_v69 : Ref sig .tc := ⟨.hbm, 123, rfl⟩
abbrev main_c : Ref sig .tc := ⟨.hbm, 124, rfl⟩
abbrev main_v70 : Ref sig .tc := ⟨.hbm, 125, rfl⟩
abbrev main_v71 : Ref sig .tc := ⟨.hbm, 126, rfl⟩
abbrev main_c_18 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_19 : Ref sig .tc := ⟨.hbm, 138, rfl⟩
abbrev main_call10_v0 : Ref sig .tc := ⟨.hbm, 139, rfl⟩
abbrev main_call10_v1 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_20 : Ref sig .tc := ⟨.hbm, 147, rfl⟩
abbrev main_call11_v0 : Ref sig .tc := ⟨.hbm, 148, rfl⟩
abbrev main_call11_v1 : Ref sig .tc := ⟨.hbm, 149, rfl⟩
abbrev main_v88 : Ref sig .tc := ⟨.hbm, 150, rfl⟩
abbrev main_v89 : Ref sig .tc := ⟨.hbm, 151, rfl⟩
abbrev main_c_21 : Ref sig .tc := ⟨.hbm, 152, rfl⟩
abbrev main_v90 : Ref sig .tc := ⟨.hbm, 153, rfl⟩
abbrev main_v91 : Ref sig .tc := ⟨.hbm, 154, rfl⟩
abbrev main_c_22 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_c_23 : Ref sig .tc := ⟨.hbm, 162, rfl⟩
abbrev main_c_24 : Ref sig .tc := ⟨.hbm, 163, rfl⟩
abbrev main_v98_0 : Ref sig .tc := ⟨.hbm, 164, rfl⟩
abbrev main_v98_1 : Ref sig .tc := ⟨.hbm, 165, rfl⟩
abbrev main_v98_2 : Ref sig .tc := ⟨.hbm, 166, rfl⟩
abbrev main_v98_3 : Ref sig .tc := ⟨.hbm, 167, rfl⟩
abbrev main_v98_4 : Ref sig .tc := ⟨.hbm, 168, rfl⟩
abbrev main_v98_5 : Ref sig .tc := ⟨.hbm, 169, rfl⟩
abbrev main_while0c_c_35 : Ref sig .tc := ⟨.hbm, 170, rfl⟩
abbrev main_while0c_v119 : Ref sig .tc := ⟨.hbm, 171, rfl⟩
abbrev main_while0b_c_35 : Ref sig .tc := ⟨.hbm, 172, rfl⟩
abbrev main_while0b_v119 : Ref sig .tc := ⟨.hbm, 173, rfl⟩
abbrev main_while0b_v120 : Ref sig .tc := ⟨.hbm, 174, rfl⟩
abbrev main_while0b_c_36 : Ref sig .tc := ⟨.hbm, 175, rfl⟩
abbrev main_while0b_v121 : Ref sig .tc := ⟨.hbm, 176, rfl⟩
abbrev main_while0b_c_37 : Ref sig .tc := ⟨.hbm, 177, rfl⟩
abbrev main_while0b_v122 : Ref sig .tc := ⟨.hbm, 178, rfl⟩
abbrev main_while0b_v123 : Ref sig .tc := ⟨.hbm, 179, rfl⟩
abbrev main_while0b_c_38 : Ref sig .tc := ⟨.hbm, 180, rfl⟩
abbrev main_while0b_c_39 : Ref sig .tc := ⟨.hbm, 181, rfl⟩
abbrev main_while0b_v124 : Ref sig .tc := ⟨.hbm, 182, rfl⟩
abbrev main_while0b_c_40 : Ref sig .tc := ⟨.hbm, 183, rfl⟩
abbrev main_while0b_c_41 : Ref sig .tc := ⟨.hbm, 184, rfl⟩
abbrev main_while0b_v125 : Ref sig .tc := ⟨.hbm, 185, rfl⟩
abbrev main_while0b_c_42 : Ref sig .tc := ⟨.hbm, 186, rfl⟩
abbrev main_while0b_v126 : Ref sig .tc := ⟨.hbm, 187, rfl⟩
abbrev main_while0b_v127 : Ref sig .tc := ⟨.hbm, 188, rfl⟩
abbrev main_while0b_v128 : Ref sig .tc := ⟨.hbm, 189, rfl⟩
abbrev main_while0b_v129 : Ref sig .tc := ⟨.hbm, 190, rfl⟩
abbrev main_while0b_v130 : Ref sig .tc := ⟨.hbm, 191, rfl⟩
abbrev main_while0b_v131 : Ref sig .tc := ⟨.hbm, 192, rfl⟩
abbrev main_while0b_v132 : Ref sig .tc := ⟨.hbm, 193, rfl⟩
abbrev main_while0b_v133 : Ref sig .tc := ⟨.hbm, 194, rfl⟩
abbrev main_while0b_c_43 : Ref sig .tc := ⟨.hbm, 195, rfl⟩
abbrev main_while0b_v134 : Ref sig .tc := ⟨.hbm, 196, rfl⟩
abbrev main_while0b_c_44 : Ref sig .tc := ⟨.hbm, 197, rfl⟩
abbrev main_while0b_v135 : Ref sig .tc := ⟨.hbm, 198, rfl⟩
abbrev main_while0b_v136 : Ref sig .tc := ⟨.hbm, 199, rfl⟩
abbrev main_while0b_c_45 : Ref sig .tc := ⟨.hbm, 200, rfl⟩
abbrev main_while0b_c_46 : Ref sig .tc := ⟨.hbm, 201, rfl⟩
abbrev main_while0b_v137 : Ref sig .tc := ⟨.hbm, 202, rfl⟩
abbrev main_while0b_c_47 : Ref sig .tc := ⟨.hbm, 203, rfl⟩
abbrev main_while0b_c_48 : Ref sig .tc := ⟨.hbm, 204, rfl⟩
abbrev main_while0b_v138 : Ref sig .tc := ⟨.hbm, 205, rfl⟩
abbrev main_while0b_c_49 : Ref sig .tc := ⟨.hbm, 206, rfl⟩
abbrev main_while0b_v139 : Ref sig .tc := ⟨.hbm, 207, rfl⟩
abbrev main_while0b_v140 : Ref sig .tc := ⟨.hbm, 208, rfl⟩
abbrev main_while0b_v141 : Ref sig .tc := ⟨.hbm, 209, rfl⟩
abbrev main_while0b_v142 : Ref sig .tc := ⟨.hbm, 210, rfl⟩
abbrev main_while0b_v143 : Ref sig .tc := ⟨.hbm, 211, rfl⟩
abbrev main_while0b_v144 : Ref sig .tc := ⟨.hbm, 212, rfl⟩
abbrev main_while0b_v145 : Ref sig .tc := ⟨.hbm, 213, rfl⟩
abbrev main_while0b_v146 : Ref sig .tc := ⟨.hbm, 214, rfl⟩
abbrev main_while0b_cst_50 : Ref sig .tc := ⟨.hbm, 215, rfl⟩
abbrev main_while0b_call12_v0 : Ref sig .tc := ⟨.hbm, 216, rfl⟩
abbrev main_while0b_call12_v1 : Ref sig .tc := ⟨.hbm, 217, rfl⟩
abbrev main_while0b_v147 : Ref sig .tc := ⟨.hbm, 218, rfl⟩
abbrev main_while0b_v148 : Ref sig .tc := ⟨.hbm, 219, rfl⟩
abbrev main_while0b_v149 : Ref sig .tc := ⟨.hbm, 220, rfl⟩
abbrev main_while0b_v150 : Ref sig .tc := ⟨.hbm, 221, rfl⟩
abbrev main_while0b_v151 : Ref sig .tc := ⟨.hbm, 222, rfl⟩
abbrev main_while0b_v152 : Ref sig .tc := ⟨.hbm, 223, rfl⟩
abbrev main_while0b_c_51 : Ref sig .tc := ⟨.hbm, 224, rfl⟩
abbrev main_while0b_v153 : Ref sig .tc := ⟨.hbm, 225, rfl⟩
abbrev main_while0b_v154 : Ref sig .tc := ⟨.hbm, 226, rfl⟩
abbrev main_while0b_c_52 : Ref sig .tc := ⟨.hbm, 227, rfl⟩
abbrev main_while0b_v155 : Ref sig .tc := ⟨.hbm, 228, rfl⟩
abbrev main_while0b_v156 : Ref sig .tc := ⟨.hbm, 229, rfl⟩
abbrev main_while0b_v157 : Ref sig .tc := ⟨.hbm, 230, rfl⟩
abbrev main_while0b_v158 : Ref sig .tc := ⟨.hbm, 231, rfl⟩
abbrev main_while0b_v159 : Ref sig .tc := ⟨.hbm, 232, rfl⟩
abbrev main_while0b_v160 : Ref sig .tc := ⟨.hbm, 233, rfl⟩
abbrev main_while0b_v161 : Ref sig .tc := ⟨.hbm, 234, rfl⟩
abbrev main_while0b_cst_53 : Ref sig .tc := ⟨.hbm, 235, rfl⟩
abbrev main_while0b_v162 : Ref sig .tc := ⟨.hbm, 236, rfl⟩
abbrev main_while0b_v163 : Ref sig .tc := ⟨.hbm, 237, rfl⟩
abbrev main_while0b_v164 : Ref sig .tc := ⟨.hbm, 238, rfl⟩
abbrev main_while0b_cst_54 : Ref sig .tc := ⟨.hbm, 239, rfl⟩
abbrev main_while0b_v165 : Ref sig .tc := ⟨.hbm, 240, rfl⟩
abbrev main_while0b_v166 : Ref sig .tc := ⟨.hbm, 241, rfl⟩
abbrev main_while0b_v167 : Ref sig .tc := ⟨.hbm, 242, rfl⟩
abbrev main_while0b_v168 : Ref sig .tc := ⟨.hbm, 243, rfl⟩
abbrev main_while0b_v169 : Ref sig .tc := ⟨.hbm, 244, rfl⟩
abbrev main_while0b_v170 : Ref sig .tc := ⟨.hbm, 245, rfl⟩
abbrev main_while0b_c_55 : Ref sig .tc := ⟨.hbm, 246, rfl⟩
abbrev main_while0b_v171 : Ref sig .tc := ⟨.hbm, 247, rfl⟩
abbrev main_while0b_v172 : Ref sig .tc := ⟨.hbm, 248, rfl⟩
abbrev main_while0b_c_56 : Ref sig .tc := ⟨.hbm, 249, rfl⟩
abbrev main_while0b_v173 : Ref sig .tc := ⟨.hbm, 250, rfl⟩
abbrev main_while0b_v174 : Ref sig .tc := ⟨.hbm, 251, rfl⟩
abbrev main_while0b_v175 : Ref sig .tc := ⟨.hbm, 252, rfl⟩
abbrev main_while0b_v176 : Ref sig .tc := ⟨.hbm, 253, rfl⟩
abbrev main_while0b_v177 : Ref sig .tc := ⟨.hbm, 254, rfl⟩
abbrev main_while0b_v178 : Ref sig .tc := ⟨.hbm, 255, rfl⟩
abbrev main_while0b_v179 : Ref sig .tc := ⟨.hbm, 256, rfl⟩
abbrev main_while0b_v180 : Ref sig .tc := ⟨.hbm, 257, rfl⟩
abbrev main_while0b_c_57 : Ref sig .tc := ⟨.hbm, 258, rfl⟩
abbrev main_while0b_v181 : Ref sig .tc := ⟨.hbm, 259, rfl⟩
abbrev main_c_25 : Ref sig .tc := ⟨.hbm, 260, rfl⟩
abbrev main_v99 : Ref sig .tc := ⟨.hbm, 261, rfl⟩
abbrev main_c_26 : Ref sig .tc := ⟨.hbm, 262, rfl⟩
abbrev main_v100 : Ref sig .tc := ⟨.hbm, 263, rfl⟩
abbrev main_v101 : Ref sig .tc := ⟨.hbm, 264, rfl⟩
abbrev main_c_27 : Ref sig .tc := ⟨.hbm, 265, rfl⟩
abbrev main_v102 : Ref sig .tc := ⟨.hbm, 266, rfl⟩
abbrev main_v103 : Ref sig .tc := ⟨.hbm, 267, rfl⟩
abbrev main_v104 : Ref sig .tc := ⟨.hbm, 268, rfl⟩
abbrev main_v105 : Ref sig .tc := ⟨.hbm, 269, rfl⟩
abbrev main_v106 : Ref sig .tc := ⟨.hbm, 270, rfl⟩
abbrev main_v107 : Ref sig .tc := ⟨.hbm, 271, rfl⟩
abbrev main_cst_28 : Ref sig .tc := ⟨.hbm, 272, rfl⟩
abbrev main_cst_29 : Ref sig .tc := ⟨.hbm, 273, rfl⟩
abbrev main_call13_v0 : Ref sig .tc := ⟨.hbm, 274, rfl⟩
abbrev main_call13_v1 : Ref sig .tc := ⟨.hbm, 275, rfl⟩
abbrev main_call13_v2 : Ref sig .tc := ⟨.hbm, 276, rfl⟩
abbrev main_call13_v3 : Ref sig .tc := ⟨.hbm, 277, rfl⟩
abbrev main_call13_v4 : Ref sig .tc := ⟨.hbm, 278, rfl⟩
abbrev main_v108 : Ref sig .tc := ⟨.hbm, 279, rfl⟩
abbrev main_v109 : Ref sig .tc := ⟨.hbm, 280, rfl⟩
abbrev main_v110 : Ref sig .tc := ⟨.hbm, 281, rfl⟩
abbrev main_v111 : Ref sig .tc := ⟨.hbm, 282, rfl⟩
abbrev main_v112 : Ref sig .tc := ⟨.hbm, 283, rfl⟩
abbrev main_v113 : Ref sig .tc := ⟨.hbm, 284, rfl⟩
abbrev main_v114 : Ref sig .tc := ⟨.hbm, 285, rfl⟩
abbrev main_v115 : Ref sig .tc := ⟨.hbm, 286, rfl⟩
abbrev main_v116 : Ref sig .tc := ⟨.hbm, 287, rfl⟩
abbrev main_v117 : Ref sig .tc := ⟨.hbm, 288, rfl⟩
abbrev main_v118 : Ref sig .tc := ⟨.hbm, 289, rfl⟩

abbrev nD : Nat := 1
abbrev τ : Topo := Topo.v7x

variable {F : FTy → Type} [FloatOps F]

abbrev main_while0_count : Scf.Loop 32 := ⟨0#32, 15000#32, 1#32⟩
-- ==== Proof.KIBody.lean ====
module

public import proofs.«01_k».proof.Proof.Gen.KernelIdeal.Loops
public import proofs.«01_k».proof.Proof.Gen.KernelIdeal.Launch

@[expose] public section

set_option maxRecDepth 16384
set_option maxHeartbeats 4000000

noncomputable section

/-! The suppression kernel's body, run once: what its scratch row and its result block hold afterwards, as functions
of the arrays it is given. Everything here is stated for any float type. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents type of a memref's buffer on core `c`. -/
abbrev Bf (c : Dev nD) {sp : Space} {S : Shape} {e : EltTy} (M : Memref sig .tc sp S e) : Type := Buf (Elt F) (M.view.loc (c : Thread nD τ))
/-- A memref's elements held at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-! ## Pieces of arrays -/

/-- The elements of an array under a rectangle. -/
def cut {α : Type} {s : Shape} (r : Rect s) (g : s.Idx → α) : r.shape.Idx → α := fun x => g (r.emb x)

open Classical in
/-- An array with the elements under a rectangle replaced. -/
def put {α : Type} {s : Shape} (r : Rect s) (w : r.shape.Idx → α) (g : s.Idx → α) : s.Idx → α :=
  fun y => if h : ∃ x, r.emb x = y then w h.choose else g y

theorem put_emb {α : Type} {s : Shape} (r : Rect s) (w : r.shape.Idx → α) (g : s.Idx → α) (x : r.shape.Idx) :
    put r w g (r.emb x) = w x := by
  unfold put
  have h : ∃ x', r.emb x' = r.emb x := ⟨x, rfl⟩
  rw [dif_pos h]
  exact congrArg w (r.emb.injective h.choose_spec)

theorem put_of_not {α : Type} {s : Shape} (r : Rect s) (w : r.shape.Idx → α) (g : s.Idx → α) (y : s.Idx)
    (h : ∀ x, r.emb x ≠ y) : put r w g y = g y := by
  unfold put
  rw [dif_neg fun ⟨x, hx⟩ => h x hx]

/-- What a view reads after one more rectangle has been written through it. -/
theorem read_write_put {κ : Kind} {sp : Space} {s : Shape} {e : EltTy} (v : View sig κ sp s e) (f : v.ty.Contents (Elt F))
    (r : Rect s) (w : r.shape.Idx → Elt F e) (L : List (View.Piece (Elt F) s e)) :
    v.read (Elt F) (v.writes (Elt F) f (⟨r, w⟩ :: L)) = put r w (v.read (Elt F) (v.writes (Elt F) f L)) := by
  funext y
  by_cases h : ∃ x, r.emb x = y
  · obtain ⟨x, rfl⟩ := h
    rw [put_emb, View.read_writes_cons_emb]
  · rw [put_of_not _ _ _ _ fun x hx => h ⟨x, hx⟩, View.writes_cons, View.read_slice_write_of_not_mem]
    intro hm
    obtain ⟨x, -, hx⟩ := Finset.mem_map.mp hm
    exact h ⟨x, hx⟩

/-! ## The values of one trip -/

/-- A row of 15360 numbers, and the table of 15360 boxes. -/
abbrev Row (F : FTy → Type) : Type := S1x15360.Idx → Elt F .f32
abbrev Tab (F : FTy → Type) : Type := S15360x4.Idx → Elt F .f32

/-- The block of 128 boxes of trip `k`, as rows of the table, -/
abbrev R1 (k : Fin k1_t1_loop.trips) : Rect S15360x4 := Rect.unit (s := S15360x4) (k1_off1 k) S128x4.size (k1_off1_inb k)
/-- as columns of a row, -/
abbrev R2 (k : Fin k1_t1_loop.trips) : Rect S1x15360 := Rect.unit (s := S1x15360) (k1_off2 k) S1x128.size (k1_off2_inb k)
/-- and the block of 512 columns of the inner trip `j`. -/
abbrev R3 (k : Fin k1_t1_loop.trips) (j : Fin (k1_t2_loop k).trips) : Rect S1x15360 :=
  Rect.unit (s := S1x15360) (k1_off3 k j) S1x512.size (k1_off3_inb k j)

/-- The first box of the block. -/
def base (k : Fin k1_t1_loop.trips) : BitVec 32 := Scalar.muli (Scf.iv 0#32 1#32 k) 128#32

/-- The first inner block of columns: the word the program computes. -/
def col0 (k : Fin k1_t1_loop.trips) : BitVec 32 :=
  let v132 : BitVec 32 := Scalar.addi (base k) 128#32
  let v133 : BitVec 32 := Scalar.divsi v132 512#32
  let v138 : BitVec 32 := Scalar.subi (Scalar.extui (Scalar.cmpi .sgt v132 0#32)) (Scalar.extui (Scalar.cmpi .slt v132 0#32))
  let v143 : BitVec 32 := Scalar.subi (Scalar.extui (Scalar.cmpi .sgt 512#32 0#32)) (Scalar.extui (Scalar.cmpi .slt 512#32 0#32))
  let v147 : BitVec 1 := Scalar.andi (Scalar.cmpi .ne v138 v143) (Scalar.cmpi .ne (Scalar.remsi v132 512#32) 0#32)
  Scalar.select v147 (Scalar.subi v133 1#32) v133

/-- The overlap table of the block with itself: one where the row's box suppresses the column's. -/
def over (A0 : Tab F) (A1 A2 A3 A4 A9 : Row F) (k : Fin k1_t1_loop.trips) : FVec F S128x128 .f32 :=
  k1_pay24 (k1_pay16 (cut (R1 k) A0)) (k1_pay17 (cut (R1 k) A0) (cut (R2 k) A1) (cut (R2 k) A2) (cut (R2 k) A3) (cut (R2 k) A4)) (cut (R2 k) A9)

/-- The suppression loop from `a` with flag `b` ends after `n` further rounds with `r`. -/
def RunsIn (v112 : FVec F S128x128 .f32) (v114 : FVec F S1x128 .f32) : ℕ → FVec F S1x128 .f32 → BitVec 1 → FVec F S1x128 .f32 → Prop
  | 0, a, b, r => b ≠ 1#1 ∧ r = a
  | n + 1, a, b, r => b = 1#1 ∧ RunsIn v112 v114 n (k1_pay5 v112 v114 a) (Scalar.cmpf .ogt (k1_pay6 v112 v114 a) (Scalar.ofBits .f32 0x00000000#32)) r

/-- It ends, started as the kernel starts it. -/
def Ends (v112 : FVec F S128x128 .f32) (v114 : FVec F S1x128 .f32) : Prop := ∃ r, ∃ n, RunsIn v112 v114 n v114 1#1 r

open Classical in
/-- What it ends with. -/
def res (v112 : FVec F S128x128 .f32) (v114 : FVec F S1x128 .f32) : FVec F S1x128 .f32 :=
  if h : Ends v112 v114 then h.choose else v114

theorem res_spec {v112 : FVec F S128x128 .f32} {v114 : FVec F S1x128 .f32} (h : Ends v112 v114) :
    ∃ n, RunsIn v112 v114 n v114 1#1 (res v112 v114) := by
  unfold res
  rw [dif_pos h]
  exact h.choose_spec

/-- The suppression of the later columns by the block's survivors `r`: one inner block. -/
def colStep (A0 : Tab F) (A1 A2 A3 A4 A9 : Row F) (k : Fin k1_t1_loop.trips) (r : FVec F S1x128 .f32) (j : Fin (k1_t2_loop k).trips) (g : Row F) : Row F :=
  put (R3 k j) (k1_pay28 (base k) (Scalar.muli (Scf.iv (col0 k) 1#32 j) 512#32) (cut (R3 k j) g)
    (k1_pay7 (k1_pay12 (cut (R1 k) A0)) (k1_pay13 (cut (R1 k) A0)) (k1_pay14 (cut (R1 k) A0)) (k1_pay15 (cut (R1 k) A0)) (k1_pay16 (cut (R1 k) A0))
      (cut (R3 k j) A1) (cut (R3 k j) A2) (cut (R3 k j) A3) (cut (R3 k j) A4) (cut (R3 k j) A9)) (k1_pay8 (k1_pay26 r))) g

/-- The first `n` inner blocks. -/
def colN (A0 : Tab F) (A1 A2 A3 A4 A9 : Row F) (k : Fin k1_t1_loop.trips) (r : FVec F S1x128 .f32) (g : Row F) : ℕ → Row F
  | 0 => g
  | n + 1 => if h : n < (k1_t2_loop k).trips then colStep A0 A1 A2 A3 A4 A9 k r ⟨n, h⟩ (colN A0 A1 A2 A3 A4 A9 k r g n) else colN A0 A1 A2 A3 A4 A9 k r g n

/-- The flag: some box of the block survives. -/
def some1 (r : FVec F S1x128 .f32) : BitVec 1 :=
  Scalar.cmpi .ne (Scalar.extui (Scalar.cmpf .ogt (k1_pay27 r) (Scalar.ofBits .f32 0x00000000#32))) 0#32

open Classical in
/-- One trip: the block's survivors put in place, then the later columns suppressed if there is a survivor. -/
def tripOf (A0 : Tab F) (A1 A2 A3 A4 A9 : Row F) (k : Fin k1_t1_loop.trips) (r : FVec F S1x128 .f32) (g : Row F) : Row F :=
  if some1 r = 1#1 then colN A0 A1 A2 A3 A4 A9 k r (put (R2 k) (k1_pay25 r) g) (k1_t2_loop k).trips
  else put (R2 k) (k1_pay25 r) g

/-- The survivors of trip `k`, from the row before it. -/
def resK (A0 : Tab F) (A1 A2 A3 A4 A9 : Row F) (k : Fin k1_t1_loop.trips) (g : Row F) : FVec F S1x128 .f32 :=
  res (over A0 A1 A2 A3 A4 A9 k) (cut (R2 k) g)

/-- The row before trip `k`, from `g`. -/
def rowAt (A0 : Tab F) (A1 A2 A3 A4 A9 : Row F) (g : Row F) : ℕ → Row F
  | 0 => g
  | k + 1 => if h : k < k1_t1_loop.trips then
      tripOf A0 A1 A2 A3 A4 A9 ⟨k, h⟩ (resK A0 A1 A2 A3 A4 A9 ⟨k, h⟩ (rowAt A0 A1 A2 A3 A4 A9 g k)) (rowAt A0 A1 A2 A3 A4 A9 g k)
    else rowAt A0 A1 A2 A3 A4 A9 g k

theorem rowAt_succ (A0 : Tab F) (A1 A2 A3 A4 A9 : Row F) (g : Row F) (k : Fin k1_t1_loop.trips) :
    rowAt A0 A1 A2 A3 A4 A9 g (k.val + 1) = tripOf A0 A1 A2 A3 A4 A9 k (resK A0 A1 A2 A3 A4 A9 k (rowAt A0 A1 A2 A3 A4 A9 g k)) (rowAt A0 A1 A2 A3 A4 A9 g k) := by
  rw [rowAt, dif_pos k.isLt]

/-! ## The loops of the program -/

/-- The second inner loop has no trips: its bounds are equal. -/
theorem t3_trips (k : Fin k1_t1_loop.trips) : (k1_t3_loop k).trips = 0 := by
  revert k; decide

/-- A call of the suppression loop returns what the loop ends with. -/
theorem wp_while_body (c : Dev nD) (E : Set ℕ) (k1_t1 : Fin k1_t1_loop.trips) (v112 : FVec F S128x128 .f32) (v114 : FVec F S1x128 .f32) :
    ∀ (n m : ℕ) (hm : n ≤ m) (a : FVec F S1x128 .f32) (b : BitVec 1) (r : FVec F S1x128 .f32)
      (h : RunsIn v112 v114 n a b r) (Q : FVec F S1x128 .f32 × BitVec 1 → sProp 𝕄),
      iprop(∀ b', Q (r, b'))
        ⊢ wp frame (wpE (defs₀ (F := F)) Variants.nat (c : Thread nD τ) (some m)) E (cc1_while1 k1_t1 v112 v114 a b) Q := by
  intro n
  induction n with
  | zero =>
    rintro m hm a b r ⟨hb, rfl⟩ Q
    rw [cc1_while1_eq_skeleton]; unfold cc1_while1_skel
    rw [if_neg hb]
    iintro H
    sl_step
    ispecialize H $$ %b
    iexact H
  | succ n ih =>
    rintro m hm a b r ⟨hb, hr⟩ Q
    rw [cc1_while1_eq_skeleton]; unfold cc1_while1_skel
    rw [if_pos hb]
    refine (ih n le_rfl _ _ r hr Q).trans ?_
    iintro H
    iapply (wp_call (𝒱 := Variants.nat) (c := (c : Thread nD τ)) (bd := some m) (E := E) (v := (n : ℕ)) (hv := by rintro u ⟨⟩; exact hm))
    iapply (wp_wand_r Idealize.ShloMosaic.frame (wpE (defs₀ (F := F)) Variants.nat (c : Thread nD τ) (some n)) E)
    isplitl [H]
    · iexact H
    iintro %x Hx
    sl_step
    iexact Hx

/-- The same at the head of a program. -/
theorem wp_while (c : Dev nD) (E : Set ℕ) (k1_t1 : Fin k1_t1_loop.trips) (v112 : FVec F S128x128 .f32) (v114 : FVec F S1x128 .f32)
    (n : ℕ) (a : FVec F S1x128 .f32) (b : BitVec 1) (r : FVec F S1x128 .f32)
    (h : RunsIn v112 v114 n a b r) {β : Type} (kk : FVec F S1x128 .f32 × BitVec 1 → Prog (TpuEff nD τ sig (Elt F) (Λ₀ F) .tc) β) (Q : β → sProp 𝕄) :
      iprop(∀ b', wp frame (wpE (defs₀ (F := F)) Variants.nat (c : Thread nD τ) none) E (kk (r, b')) Q)
        ⊢ wp frame (wpE (defs₀ (F := F)) Variants.nat (c : Thread nD τ) none) E (.op (.call (2 : (Λ₀ F).Label) ⟨k1_t1, v112, v114, a, b⟩) kk) Q := by
  iintro H
  iapply (wp_call (𝒱 := Variants.nat) (c := (c : Thread nD τ)) (bd := none) (E := E) (v := (n : ℕ)) (hv := by rintro u ⟨⟩))
  iapply (wp_while_body c E k1_t1 v112 v114 n n le_rfl a b r h (fun x => wp Idealize.ShloMosaic.frame (wpE (defs₀ (F := F)) Variants.nat (c : Thread nD τ) none) E (kk x) Q))
  iexact H

variable (c : Dev nD) {arg0 : Memref sig .tc .vmem S15360x4 .f32} {harg0 : arg0.IsWhole} {arg1 : Memref sig .tc .vmem S1x15360 .f32} {harg1 : arg1.IsWhole} {arg2 : Memref sig .tc .vmem S1x15360 .f32} {harg2 : arg2.IsWhole} {arg3 : Memref sig .tc .vmem S1x15360 .f32} {harg3 : arg3.IsWhole} {arg4 : Memref sig .tc .vmem S1x15360 .f32} {harg4 : arg4.IsWhole} {arg5 : Memref sig .tc .vmem S1x15360 .f32} {harg5 : arg5.IsWhole} {arg6 : Memref sig .tc .vmem S1x15360 .f32} {harg6 : arg6.IsWhole} {arg7 : Memref sig .tc .vmem S8x15360 .f32} {harg7 : arg7.IsWhole} {arg8 : Memref sig .tc .vmem S1x15360 .f32} {harg8 : arg8.IsWhole} {arg9 : Memref sig .tc .vmem S1x15360 .f32} {harg9 : arg9.IsWhole}

section Inner

variable (k1_t1 : Fin k1_t1_loop.trips) (v49 : BitVec 32) (v53 v54 v55 v56 v63 : FVec F S128x1 .f32) (v115_0 : FVec F S1x128 .f32) (v149 : BitVec 32)
  (f1 : Bf (F := F) c arg1) (f2 : Bf (F := F) c arg2) (f3 : Bf (F := F) c arg3) (f4 : Bf (F := F) c arg4) (f9 : Bf (F := F) c arg9)

/-- What one inner trip stores. -/
theorem tripL_eq (bd : Option ℕ) (j : Fin (k1_t2_loop k1_t1).trips) (acc : BitVec 32) (f8 : Bf (F := F) c arg8) :
    tripL_k1_t2 (F := F) Variants.nat c bd arg0 harg0 arg1 harg1 arg2 harg2 arg3 harg3 arg4 harg4 arg5 harg5 arg6 harg6 arg7 harg7 arg8 harg8 arg9 harg9 k1_t1 v49 v53 v54 v55 v56 v63 v115_0 v149 f1 f2 f3 f4 f9 j acc f8
      = [⟨R3 k1_t1 j, k1_pay28 v49 (Scalar.muli (Scf.iv v149 1#32 j) 512#32) (cut (R3 k1_t1 j) (arg8.view.read (Elt F) f8))
          (k1_pay7 v53 v54 v55 v56 v63 (cut (R3 k1_t1 j) (arg1.view.read (Elt F) f1)) (cut (R3 k1_t1 j) (arg2.view.read (Elt F) f2))
            (cut (R3 k1_t1 j) (arg3.view.read (Elt F) f3)) (cut (R3 k1_t1 j) (arg4.view.read (Elt F) f4)) (cut (R3 k1_t1 j) (arg9.view.read (Elt F) f9)))
          (k1_pay8 (k1_pay26 v115_0))⟩] := by
  unfold tripL_k1_t2 trip_k1_t2
  rfl

end Inner

/-- The inner loop's row after `n` trips. -/
theorem st_read (bd : Option ℕ) (k : Fin k1_t1_loop.trips) (r : FVec F S1x128 .f32) (A0 : Tab F)
    (f1 : Bf (F := F) c arg1) (f2 : Bf (F := F) c arg2) (f3 : Bf (F := F) c arg3) (f4 : Bf (F := F) c arg4) (f9 : Bf (F := F) c arg9)
    (G : Bf (F := F) c arg8) (init : BitVec 32) (n : ℕ) :
    arg8.view.read (Elt F) (arg8.view.writes (Elt F) G (st_k1_t2 (F := F) Variants.nat c bd arg0 harg0 arg1 harg1 arg2 harg2 arg3 harg3 arg4 harg4 arg5 harg5 arg6 harg6 arg7 harg7 arg8 harg8 arg9 harg9 k (base k)
        (k1_pay12 (cut (R1 k) A0)) (k1_pay13 (cut (R1 k) A0)) (k1_pay14 (cut (R1 k) A0)) (k1_pay15 (cut (R1 k) A0)) (k1_pay16 (cut (R1 k) A0)) r (col0 k)
        f1 f2 f3 f4 f9 G init n).2)
      = colN A0 (arg1.view.read (Elt F) f1) (arg2.view.read (Elt F) f2) (arg3.view.read (Elt F) f3) (arg4.view.read (Elt F) f4) (arg9.view.read (Elt F) f9)
          k r (arg8.view.read (Elt F) G) n := by
  induction n with
  | zero => rfl
  | succ n ih =>
    rw [colN]
    by_cases h : n < (k1_t2_loop k).trips
    · rw [dif_pos h]
      rw [show n + 1 = (⟨n, h⟩ : Fin (k1_t2_loop k).trips).val + 1 from rfl, st_k1_t2_succ, tripL_eq]
      rw [List.singleton_append, read_write_put, ih]
      rfl
    · rw [dif_neg h, ← ih]
      conv_lhs => rw [st_k1_t2.eq_2]
      unfold st_k1_t2Step
      rw [dif_neg h]

/-- One trip of the body's outer loop: the scratch row becomes the trip's row. -/
theorem t1_trip (k1_t1 : Fin k1_t1_loop.trips) (E : Set ℕ)
   (f0 : Bf (F := F) c arg0) (f1 : Bf (F := F) c arg1) (f2 : Bf (F := F) c arg2) (f3 : Bf (F := F) c arg3) (f4 : Bf (F := F) c arg4) (f9 : Bf (F := F) c arg9) (f8 : Bf (F := F) c arg8)
   (r : FVec F S1x128 .f32)
   (hr : ∃ n, RunsIn (over (arg0.view.read (Elt F) f0) (arg1.view.read (Elt F) f1) (arg2.view.read (Elt F) f2) (arg3.view.read (Elt F) f3) (arg4.view.read (Elt F) f4) (arg9.view.read (Elt F) f9) k1_t1)
      (cut (R2 k1_t1) (arg8.view.read (Elt F) f8)) n (cut (R2 k1_t1) (arg8.view.read (Elt F) f8)) 1#1 r) :
   iprop(pt c arg0 f0 ∗ pt c arg1 f1 ∗ pt c arg2 f2 ∗ pt c arg3 f3 ∗ pt c arg4 f4 ∗ pt c arg9 f9 ∗ pt c arg8 f8)
   ⊢ wp frame (wpE (defs₀ (F := F)) Variants.nat (c : Thread nD τ) none) E (k1_t1_body (F := F) arg0 harg0 arg1 harg1 arg2 harg2 arg3 harg3 arg4 harg4 arg5 harg5 arg6 harg6 arg7 harg7 arg8 harg8 arg9 harg9 k1_t1 ())
     (fun _ => iprop(pt c arg0 f0 ∗ pt c arg1 f1 ∗ pt c arg2 f2 ∗ pt c arg3 f3 ∗ pt c arg4 f4 ∗ pt c arg9 f9
        ∗ ∃ f, pt c arg8 f ∗ ⌜arg8.view.read (Elt F) f = tripOf (arg0.view.read (Elt F) f0) (arg1.view.read (Elt F) f1) (arg2.view.read (Elt F) f2) (arg3.view.read (Elt F) f3)
            (arg4.view.read (Elt F) f4) (arg9.view.read (Elt F) f9) k1_t1 r (arg8.view.read (Elt F) f8)⌝)) := by
  obtain ⟨n, hr⟩ := hr
  unfold k1_t1_body
  iintro ⟨H0, H1, H2, H3, H4, H9, H8⟩
  sl_exec
  iapply (wp_while c E k1_t1 _ _ n _ _ r hr)
  iintro %b'
  sl_exec
  by_cases hv : some1 r = 1#1
  · have hv' : t1_trip.sl.v131 r = 1#1 := hv
    rw [if_pos hv']
    sl_exec
    sl_step
    isplitl [H0]; · iexact H0
    isplitl [H1]; · iexact H1
    isplitl [H2]; · iexact H2
    isplitl [H3]; · iexact H3
    isplitl [H4]; · iexact H4
    isplitl [H9]; · iexact H9
    iexists _
    isplitl [H8]; · iexact H8
    ipureintro
    have h3 : Scf.trips (k1_t3_loop k1_t1).lb (k1_t3_loop k1_t1).ub (k1_t3_loop k1_t1).st = 0 := t3_trips k1_t1
    rw [h3, st_k1_t3.eq_1, List.nil_append, View.writes_append]
    unfold tripOf
    rw [if_pos hv]
    have hp : put (R2 k1_t1) (k1_pay25 r) (arg8.view.read (Elt F) f8) = arg8.view.read (Elt F) (arg8.view.writes (Elt F) f8 [⟨R2 k1_t1, k1_pay25 r⟩]) :=
      (read_write_put (arg8.view) f8 (R2 k1_t1) (k1_pay25 r) []).symm
    rw [hp]
    generalize arg8.view.writes (Elt F) f8 [⟨R2 k1_t1, k1_pay25 r⟩] = G
    have e0 : t1_trip.sl.v49 k1_t1 = base k1_t1 := rfl
    have e1 : t1_trip.sl.r c k1_t1 f0 = k1_pay12 (cut (R1 k1_t1) (arg0.view.read (Elt F) f0)) := rfl
    have e2 : t1_trip.sl.r_1 c k1_t1 f0 = k1_pay13 (cut (R1 k1_t1) (arg0.view.read (Elt F) f0)) := rfl
    have e3 : t1_trip.sl.r_2 c k1_t1 f0 = k1_pay14 (cut (R1 k1_t1) (arg0.view.read (Elt F) f0)) := rfl
    have e4 : t1_trip.sl.r_3 c k1_t1 f0 = k1_pay15 (cut (R1 k1_t1) (arg0.view.read (Elt F) f0)) := rfl
    have e5 : t1_trip.sl.r_4 c k1_t1 f0 = k1_pay16 (cut (R1 k1_t1) (arg0.view.read (Elt F) f0)) := rfl
    have e6 : t1_trip.sl.v149_1 k1_t1 = col0 k1_t1 := (by decide : ∀ k, t1_trip.sl.v149_1 k = col0 k) k1_t1
    rw [e0, e1, e2, e3, e4, e5, e6]
    exact st_read c none k1_t1 r (arg0.view.read (Elt F) f0) f1 f2 f3 f4 f9 G 0#32 (k1_t2_loop k1_t1).trips
  · have hv' : ¬ t1_trip.sl.v131 r = 1#1 := hv
    rw [if_neg hv']
    sl_step
    isplitl [H0]; · iexact H0
    isplitl [H1]; · iexact H1
    isplitl [H2]; · iexact H2
    isplitl [H3]; · iexact H3
    isplitl [H4]; · iexact H4
    isplitl [H9]; · iexact H9
    iexists _
    isplitl [H8]; · iexact H8
    ipureintro
    unfold tripOf
    rw [if_neg hv]
    exact read_write_put (arg8.view) f8 (R2 k1_t1) (k1_pay25 r) []

/-- What is held before trip `k` of the outer loop: the arguments as they are, the scratch row at the row before `k`. -/
def inv1 (f0 : Bf (F := F) c arg0) (f1 : Bf (F := F) c arg1) (f2 : Bf (F := F) c arg2) (f3 : Bf (F := F) c arg3) (f4 : Bf (F := F) c arg4) (f9 : Bf (F := F) c arg9) (arg8 : Memref sig .tc .vmem S1x15360 .f32) (g : Row F)
    (k : ℕ) (_ : PUnit) : sProp 𝕄 :=
  iprop(pt c arg0 f0 ∗ pt c arg1 f1 ∗ pt c arg2 f2 ∗ pt c arg3 f3 ∗ pt c arg4 f4 ∗ pt c arg9 f9
        ∗ ∃ f, pt c arg8 f ∗ ⌜arg8.view.read (Elt F) f = rowAt (arg0.view.read (Elt F) f0) (arg1.view.read (Elt F) f1) (arg2.view.read (Elt F) f2) (arg3.view.read (Elt F) f3)
            (arg4.view.read (Elt F) f4) (arg9.view.read (Elt F) f9) g k⌝)

/-- A trip takes it on, when every suppression loop ends. -/
theorem step1 (E : Set ℕ) (f0 : Bf (F := F) c arg0) (f1 : Bf (F := F) c arg1) (f2 : Bf (F := F) c arg2) (f3 : Bf (F := F) c arg3) (f4 : Bf (F := F) c arg4) (f9 : Bf (F := F) c arg9) (g : Row F)
   (hends : ∀ k : Fin k1_t1_loop.trips, Ends (over (arg0.view.read (Elt F) f0) (arg1.view.read (Elt F) f1) (arg2.view.read (Elt F) f2) (arg3.view.read (Elt F) f3) (arg4.view.read (Elt F) f4) (arg9.view.read (Elt F) f9) k)
      (cut (R2 k) (rowAt (arg0.view.read (Elt F) f0) (arg1.view.read (Elt F) f1) (arg2.view.read (Elt F) f2) (arg3.view.read (Elt F) f3) (arg4.view.read (Elt F) f4) (arg9.view.read (Elt F) f9) g k)))
   (k : Fin k1_t1_loop.trips) :
   inv1 c f0 f1 f2 f3 f4 f9 arg8 g k ()
    ⊢ wp frame (wpE (defs₀ (F := F)) Variants.nat (c : Thread nD τ) none) E (k1_t1_body (F := F) arg0 harg0 arg1 harg1 arg2 harg2 arg3 harg3 arg4 harg4 arg5 harg5 arg6 harg6 arg7 harg7 arg8 harg8 arg9 harg9 k ())
      (inv1 c f0 f1 f2 f3 f4 f9 arg8 g (k.val + 1)) := by
    unfold inv1
    iintro ⟨H0, H1, H2, H3, H4, H9, %f8, H8, %h8⟩
    have hr := res_spec (hends k)
    rw [← h8] at hr
    rw [rowAt_succ, ← h8]
    iapply (t1_trip c k E f0 f1 f2 f3 f4 f9 f8 _ hr)
    isplitl [H0]; · iexact H0
    isplitl [H1]; · iexact H1
    isplitl [H2]; · iexact H2
    isplitl [H3]; · iexact H3
    isplitl [H4]; · iexact H4
    isplitl [H9] <;> iassumption

end Cert.Proof.KI

end
-- ==== Proof.KIRows.lean ====
module

public import proofs.«01_k».proof.Proof.KIBody
public import Idealize.ShloMosaic.Lib.WritesUnit
public import Idealize.ShloMosaic.Lib.Pointwise.Index

@[expose] public section

set_option maxRecDepth 16384
set_option maxHeartbeats 4000000

noncomputable section

/-! Blocks of eight rows stored row by row. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole of a row. -/
abbrev R00 : Rect S1x15360 := Rect.unit (s := S1x15360) ![0, 0] S1x15360.size inb_S1x15360_S1x15360_0_0

theorem R00_emb (x : S1x15360.Idx) : R00.emb x = x := by
  funext a
  refine Fin.ext ?_
  show _ + _ * _ = _
  fin_cases a <;> simp

theorem cut_R00 {α : Type} (g : S1x15360.Idx → α) : (cut R00 g : S1x15360.Idx → α) = g := funext fun x => congrArg g (R00_emb x)

theorem put_R00 {α : Type} (w g : S1x15360.Idx → α) : put R00 w g = w := by
  funext y
  conv_lhs => rw [← R00_emb y]
  exact put_emb R00 w g y

/-- Reading a whole row through its view. -/
theorem readAt_R00 {sp : Space} (M : Memref sig .tc sp S1x15360 .f32) (f : M.view.ty.Contents (Elt F)) :
    View.readAt (Elt F) M.view R00.toLoadRect f = M.view.read (Elt F) f := cut_R00 _

/-- Eight rows from six single rows and a pair. -/
def rows62 {α : Type} (w0 w1 w2 w3 w4 w5 : S1x15360.Idx → α) (w6 : S2x15360.Idx → α) : S8x15360.Idx → α := fun y =>
  let j : Fin 15360 := y 1
  if h : 6 ≤ (y 0).val then w6 (ix2 (n0 := 2) (n1 := 15360) ⟨(y 0).val - 6, by have : (y 0).val < 8 := (y 0).isLt; omega⟩ j)
  else if (y 0).val = 5 then w5 (ix2 (n0 := 1) (n1 := 15360) 0 j)
  else if (y 0).val = 4 then w4 (ix2 (n0 := 1) (n1 := 15360) 0 j)
  else if (y 0).val = 3 then w3 (ix2 (n0 := 1) (n1 := 15360) 0 j)
  else if (y 0).val = 2 then w2 (ix2 (n0 := 1) (n1 := 15360) 0 j)
  else if (y 0).val = 1 then w1 (ix2 (n0 := 1) (n1 := 15360) 0 j)
  else w0 (ix2 (n0 := 1) (n1 := 15360) 0 j)

/-- One stored row, read back: at its own row the row, elsewhere what was there. -/
theorem read_row {sp : Space} (v : View sig .tc sp S8x15360 .f32) (f : v.ty.Contents (Elt F)) (o : ℕ)
    (inb : ∀ a : Fin 2, (![o, 0] : Fin 2 → ℕ) a + S1x15360.size a ≤ S8x15360.size a) (w : S1x15360.Idx → Elt F .f32)
    (L : List (View.Piece (Elt F) S8x15360 .f32)) (y : S8x15360.Idx) :
    v.read (Elt F) (v.writes (Elt F) f (⟨Rect.unit (s := S8x15360) ![o, 0] S1x15360.size inb, w⟩ :: L)) y
      = if (y 0).val = o then w (ix2 (n0 := 1) (n1 := 15360) 0 (show Fin 15360 from y 1)) else v.read (Elt F) (v.writes (Elt F) f L) y := by
  by_cases h : (y 0).val = o
  · rw [if_pos h]
    exact View.read_writes_cons_rows_of_mem v f inb w L y (ix2 (n0 := 1) (n1 := 15360) 0 (show Fin 15360 from y 1)) rfl (by simp [ix2, h]) rfl
  · rw [if_neg h]
    exact View.read_writes_cons_rows_of_not_mem (W := 1) v f inb w L y rfl rfl (by omega)

/-- The same for a stored pair of rows. -/
theorem read_pair {sp : Space} (v : View sig .tc sp S8x15360 .f32) (f : v.ty.Contents (Elt F))
    (inb : ∀ a : Fin 2, (![6, 0] : Fin 2 → ℕ) a + S2x15360.size a ≤ S8x15360.size a) (w : S2x15360.Idx → Elt F .f32)
    (L : List (View.Piece (Elt F) S8x15360 .f32)) (y : S8x15360.Idx) :
    v.read (Elt F) (v.writes (Elt F) f (⟨Rect.unit (s := S8x15360) ![6, 0] S2x15360.size inb, w⟩ :: L)) y
      = if h : 6 ≤ (y 0).val then w (ix2 (n0 := 2) (n1 := 15360) ⟨(y 0).val - 6, by have : (y 0).val < 8 := (y 0).isLt; omega⟩ (show Fin 15360 from y 1)) else v.read (Elt F) (v.writes (Elt F) f L) y := by
  have h8 : (y 0).val < 8 := (y 0).isLt
  by_cases h : 6 ≤ (y 0).val
  · rw [dif_pos h]
    refine View.read_writes_cons_rows_of_mem v f inb w L y (ix2 (n0 := 2) (n1 := 15360) ⟨(y 0).val - 6, by omega⟩ (show Fin 15360 from y 1)) rfl ?_ rfl
    show (y 0).val = 6 + ((y 0).val - 6)
    omega
  · rw [dif_neg h]
    exact View.read_writes_cons_rows_of_not_mem (W := 2) v f inb w L y rfl rfl (by omega)

/-- Six single rows and a pair stored one after the other. -/
theorem read_rows62 {sp : Space} (v : View sig .tc sp S8x15360 .f32) (f : v.ty.Contents (Elt F))
    (w0 w1 w2 w3 w4 w5 : S1x15360.Idx → Elt F .f32) (w6 : S2x15360.Idx → Elt F .f32) :
    v.read (Elt F) (v.writes (Elt F) f [⟨Rect.unit (s := S8x15360) ![6, 0] S2x15360.size inb_S8x15360_S2x15360_6_0, w6⟩,
      ⟨Rect.unit (s := S8x15360) ![5, 0] S1x15360.size inb_S8x15360_S1x15360_5_0, w5⟩,
      ⟨Rect.unit (s := S8x15360) ![4, 0] S1x15360.size inb_S8x15360_S1x15360_4_0, w4⟩,
      ⟨Rect.unit (s := S8x15360) ![3, 0] S1x15360.size inb_S8x15360_S1x15360_3_0, w3⟩,
      ⟨Rect.unit (s := S8x15360) ![2, 0] S1x15360.size inb_S8x15360_S1x15360_2_0, w2⟩,
      ⟨Rect.unit (s := S8x15360) ![1, 0] S1x15360.size inb_S8x15360_S1x15360_1_0, w1⟩,
      ⟨Rect.unit (s := S8x15360) ![0, 0] S1x15360.size inb_S8x15360_S1x15360_0_0, w0⟩]) = rows62 w0 w1 w2 w3 w4 w5 w6 := by
  funext y
  have h8 : (y 0).val < 8 := (y 0).isLt
  rw [read_pair, read_row, read_row, read_row, read_row, read_row, read_row]
  unfold rows62
  by_cases h6 : 6 ≤ (y 0).val
  · rw [dif_pos h6, dif_pos h6]
  rw [dif_neg h6, dif_neg h6]
  by_cases h0 : (y 0).val = 0
  · have h5 : ¬ (y 0).val = 5 := by omega
    have h4 : ¬ (y 0).val = 4 := by omega
    have h3 : ¬ (y 0).val = 3 := by omega
    have h2 : ¬ (y 0).val = 2 := by omega
    have h1 : ¬ (y 0).val = 1 := by omega
    rw [if_neg h5, if_neg h5, if_neg h4, if_neg h4, if_neg h3, if_neg h3, if_neg h2, if_neg h2, if_neg h1, if_neg h1, if_pos h0]
  by_cases h5 : (y 0).val = 5
  · rw [if_pos h5, if_pos h5]
  rw [if_neg h5, if_neg h5]
  by_cases h4 : (y 0).val = 4
  · rw [if_pos h4, if_pos h4]
  rw [if_neg h4, if_neg h4]
  by_cases h3 : (y 0).val = 3
  · rw [if_pos h3, if_pos h3]
  rw [if_neg h3, if_neg h3]
  by_cases h2 : (y 0).val = 2
  · rw [if_pos h2, if_pos h2]
  have h1 : (y 0).val = 1 := by omega
  rw [if_neg h2, if_neg h2, if_pos h1, if_pos h1]

/-- Eight single rows. -/
def rows8 {α : Type} (w0 w1 w2 w3 w4 w5 w6 w7 : S1x15360.Idx → α) : S8x15360.Idx → α := fun y =>
  let j : Fin 15360 := y 1
  if (y 0).val = 7 then w7 (ix2 (n0 := 1) (n1 := 15360) 0 j)
  else if (y 0).val = 6 then w6 (ix2 (n0 := 1) (n1 := 15360) 0 j)
  else if (y 0).val = 5 then w5 (ix2 (n0 := 1) (n1 := 15360) 0 j)
  else if (y 0).val = 4 then w4 (ix2 (n0 := 1) (n1 := 15360) 0 j)
  else if (y 0).val = 3 then w3 (ix2 (n0 := 1) (n1 := 15360) 0 j)
  else if (y 0).val = 2 then w2 (ix2 (n0 := 1) (n1 := 15360) 0 j)
  else if (y 0).val = 1 then w1 (ix2 (n0 := 1) (n1 := 15360) 0 j)
  else w0 (ix2 (n0 := 1) (n1 := 15360) 0 j)

/-- Eight single rows stored one after the other. -/
theorem read_rows8 {sp : Space} (v : View sig .tc sp S8x15360 .f32) (f : v.ty.Contents (Elt F))
    (w0 w1 w2 w3 w4 w5 w6 w7 : S1x15360.Idx → Elt F .f32) :
    v.read (Elt F) (v.writes (Elt F) f [⟨Rect.unit (s := S8x15360) ![7, 0] S1x15360.size inb_S8x15360_S1x15360_7_0, w7⟩,
      ⟨Rect.unit (s := S8x15360) ![6, 0] S1x15360.size inb_S8x15360_S1x15360_6_0, w6⟩,
      ⟨Rect.unit (s := S8x15360) ![5, 0] S1x15360.size inb_S8x15360_S1x15360_5_0, w5⟩,
      ⟨Rect.unit (s := S8x15360) ![4, 0] S1x15360.size inb_S8x15360_S1x15360_4_0, w4⟩,
      ⟨Rect.unit (s := S8x15360) ![3, 0] S1x15360.size inb_S8x15360_S1x15360_3_0, w3⟩,
      ⟨Rect.unit (s := S8x15360) ![2, 0] S1x15360.size inb_S8x15360_S1x15360_2_0, w2⟩,
      ⟨Rect.unit (s := S8x15360) ![1, 0] S1x15360.size inb_S8x15360_S1x15360_1_0, w1⟩,
      ⟨Rect.unit (s := S8x15360) ![0, 0] S1x15360.size inb_S8x15360_S1x15360_0_0, w0⟩]) = rows8 w0 w1 w2 w3 w4 w5 w6 w7 := by
  funext y
  have h8 : (y 0).val < 8 := (y 0).isLt
  rw [read_row, read_row, read_row, read_row, read_row, read_row, read_row, read_row]
  unfold rows8
  split_ifs <;> first | rfl | omega

end Cert.Proof.KI

end
-- ==== Proof.KIPrep.lean ====
module

public import proofs.«01_k».proof.Proof.KIRows

@[expose] public section

set_option maxRecDepth 16384
set_option maxHeartbeats 4000000

noncomputable section

/-! The preparing kernel's body, run whole. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) {arg0 : Memref sig .tc .vmem S1x15360 .f32} {harg0 : arg0.IsWhole} {arg1 : Memref sig .tc .vmem S1x15360 .f32} {harg1 : arg1.IsWhole} {arg2 : Memref sig .tc .vmem S1x15360 .f32} {harg2 : arg2.IsWhole} {arg3 : Memref sig .tc .vmem S1x15360 .f32} {harg3 : arg3.IsWhole} {arg4 : Memref sig .tc .vmem S1x15360 .f32} {harg4 : arg4.IsWhole} {arg5 : Memref sig .tc .vmem S1x15360 .f32} {harg5 : arg5.IsWhole} {arg6 : Memref sig .tc .vmem S1x15360 .f32} {harg6 : arg6.IsWhole} {arg7 : Memref sig .tc .vmem S8x15360 .f32} {harg7 : arg7.IsWhole}

/-- The preparing kernel's result block, from its arguments. -/
def prepBlk (A0 A1 A2 A3 A4 A5 A6 : Row F) : S8x15360.Idx → Elt F .f32 :=
  let v11 := k0_pay11 A5
  let v53 := k0_pay16 (k0_pay10 A4) v11 (k0_pay12 A6) (k0_pay13 A0 A1 A2 A3) (k0_pay14 A0 A1 A2 A3) k0_pay15
  rows8 (k0_pay19 (k0_pay6 A0) v11) (k0_pay20 (k0_pay7 A1) v11) (k0_pay21 (k0_pay8 A2) v11)
    (k0_pay1 (k0_pay9 A3) (k0_pay17 (k0_pay9 A3)) (k0_pay18 v11)) v53 (k0_pay3 v53) (k0_pay4 v53) k0_pay5

/-- The preparing kernel's body, run: its arguments kept, its result block filled. -/
theorem prep_run (E : Set ℕ) (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (Q : PUnit → sProp 𝕄) :
  iprop(pt c arg0 f0 ∗ pt c arg1 f1 ∗ pt c arg2 f2 ∗ pt c arg3 f3 ∗ pt c arg4 f4 ∗ pt c arg5 f5 ∗ pt c arg6 f6 ∗ pt c arg7 f7 ∗ (∀ g7, iprop(⌜arg7.view.read (Elt F) g7 = prepBlk (arg0.view.read (Elt F) f0) (arg1.view.read (Elt F) f1) (arg2.view.read (Elt F) f2) (arg3.view.read (Elt F) f3) (arg4.view.read (Elt F) f4) (arg5.view.read (Elt F) f5) (arg6.view.read (Elt F) f6)⌝
        ∗ pt c arg0 f0 ∗ pt c arg1 f1 ∗ pt c arg2 f2 ∗ pt c arg3 f3 ∗ pt c arg4 f4 ∗ pt c arg5 f5 ∗ pt c arg6 f6 ∗ pt c arg7 g7 -∗ Q ⟨⟩)))
   ⊢ wp frame (wpE (defs₀ (F := F)) Variants.nat (c : Thread nD τ) none) E (cc0__prep_body (F := F) arg0 harg0 arg1 harg1 arg2 harg2 arg3 harg3 arg4 harg4 arg5 harg5 arg6 harg6 arg7 harg7) Q := by
  rw [cc0__prep_body_eq_skeleton]; unfold cc0__prep_body_skel
  rw [k0_part1_eq_skeleton]; unfold k0_part1_skel
  rw [k0_part2_eq_skeleton]; unfold k0_part2_skel
  iintro ⟨H0, H1, H2, H3, H4, H5, H6, H7, Hk⟩
  have g0 : View.readAt (Elt F) arg0.view R00.toLoadRect f0 = arg0.view.read (Elt F) f0 := readAt_R00 arg0 f0
  have g1 : View.readAt (Elt F) arg1.view R00.toLoadRect f1 = arg1.view.read (Elt F) f1 := readAt_R00 arg1 f1
  have g2 : View.readAt (Elt F) arg2.view R00.toLoadRect f2 = arg2.view.read (Elt F) f2 := readAt_R00 arg2 f2
  have g3 : View.readAt (Elt F) arg3.view R00.toLoadRect f3 = arg3.view.read (Elt F) f3 := readAt_R00 arg3 f3
  have g4 : View.readAt (Elt F) arg4.view R00.toLoadRect f4 = arg4.view.read (Elt F) f4 := readAt_R00 arg4 f4
  have g5 : View.readAt (Elt F) arg5.view R00.toLoadRect f5 = arg5.view.read (Elt F) f5 := readAt_R00 arg5 f5
  have g6 : View.readAt (Elt F) arg6.view R00.toLoadRect f6 = arg6.view.read (Elt F) f6 := readAt_R00 arg6 f6
  sl_exec
  sl_step
  iapply Hk
  isplitr
  swap
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ipureintro
  refine (read_rows8 arg7.view f7 _ _ _ _ _ _ _ _).trans ?_
  rfl

end Cert.Proof.KI

end
-- ==== Proof.KIReg0.lean ====
module

public import proofs.«01_k».proof.Proof.KIPrep
public import proofs.«01_k».proof.Proof.Gen.KernelIdeal.Regions
public import proofs.«01_k».proof.Proof.Gen.KernelIdeal.Points
public import Idealize.ShloMosaic.Lib.Pipeline.RegionsLoop
public import Idealize.ShloMosaic.Lib.Tactic

@[expose] public section

set_option maxRecDepth 16384
set_option maxHeartbeats 4000000

noncomputable section

/-! The preparing kernel's region. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf)

namespace G0

variable (V : (c : Dev nD) → (b : Ref sig .tc) → Buf (Elt F) ((c : Thread nD τ).loc b))

/-- Operand 0's block as it is staged: the array, read through the window's block view. -/
abbrev stg0 (c : Dev nD) : ((cfg0 (F := F)).win 0).block.Idx → Elt F ((cfg0 (F := F)).win 0).elt :=
  (((cfg0 (F := F)).win 0).blk t0_0).view.read (Elt F) (V c main_v6)

/-- Operand 1's block as it is staged: the array, read through the window's block view. -/
abbrev stg1 (c : Dev nD) : ((cfg0 (F := F)).win 1).block.Idx → Elt F ((cfg0 (F := F)).win 1).elt :=
  (((cfg0 (F := F)).win 1).blk t0_0).view.read (Elt F) (V c main_v12)

/-- Operand 2's block as it is staged: the array, read through the window's block view. -/
abbrev stg2 (c : Dev nD) : ((cfg0 (F := F)).win 2).block.Idx → Elt F ((cfg0 (F := F)).win 2).elt :=
  (((cfg0 (F := F)).win 2).blk t0_0).view.read (Elt F) (V c main_v18)

/-- Operand 3's block as it is staged: the array, read through the window's block view. -/
abbrev stg3 (c : Dev nD) : ((cfg0 (F := F)).win 3).block.Idx → Elt F ((cfg0 (F := F)).win 3).elt :=
  (((cfg0 (F := F)).win 3).blk t0_0).view.read (Elt F) (V c main_v24)

/-- Operand 4's block as it is staged: the array, read through the window's block view. -/
abbrev stg4 (c : Dev nD) : ((cfg0 (F := F)).win 4).block.Idx → Elt F ((cfg0 (F := F)).win 4).elt :=
  (((cfg0 (F := F)).win 4).blk t0_0).view.read (Elt F) (V c main_v28)

/-- Operand 5's block as it is staged: the array, read through the window's block view. -/
abbrev stg5 (c : Dev nD) : ((cfg0 (F := F)).win 5).block.Idx → Elt F ((cfg0 (F := F)).win 5).elt :=
  (((cfg0 (F := F)).win 5).blk t0_0).view.read (Elt F) (V c main_v32)

/-- Operand 6's block as it is staged: the array, read through the window's block view. -/
abbrev stg6 (c : Dev nD) : ((cfg0 (F := F)).win 6).block.Idx → Elt F ((cfg0 (F := F)).win 6).elt :=
  (((cfg0 (F := F)).win 6).blk t0_0).view.read (Elt F) (V c main_v36)

/-- What the body leaves in its result's staging buffer. -/
abbrev left (c : Dev nD) : S8x15360.Idx → Elt F .f32 :=
  prepBlk (stg0 V c) (stg1 V c) (stg2 V c) (stg3 V c) (stg4 V c) (stg5 V c) (stg6 V c)

/-- The proof data of the region entered at `V`. -/
def dat (c : Dev nD) : Dat τ (Elt F) Unit ℕ (UR sig nD τ) ℕ (cfg0 (F := F)) c where
  A w := V c (Pipeline.arrRef spec0 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => left V c
  Φ _ := Pipeline.scopedRest (Ix := Unit) (Name := ℕ) (U := UR sig nD τ) (Lvl := ℕ) (Val := Elt F) spec0 c
  q _ := fullShare
  owed _ := 0

theorem before_0 (c : Dev nD) (d : ((cfg0 (F := F)).win 0).block.Idx → Elt F ((cfg0 (F := F)).win 0).elt) : (dat V c).before 0 t0_0 d = stg0 V c := by
  unfold Dat.before; rw [if_pos (fetch0_0 t0_0)]; rfl

theorem before_1 (c : Dev nD) (d : ((cfg0 (F := F)).win 1).block.Idx → Elt F ((cfg0 (F := F)).win 1).elt) : (dat V c).before 1 t0_0 d = stg1 V c := by
  unfold Dat.before; rw [if_pos (fetch0_1 t0_0)]; rfl

theorem before_2 (c : Dev nD) (d : ((cfg0 (F := F)).win 2).block.Idx → Elt F ((cfg0 (F := F)).win 2).elt) : (dat V c).before 2 t0_0 d = stg2 V c := by
  unfold Dat.before; rw [if_pos (fetch0_2 t0_0)]; rfl

theorem before_3 (c : Dev nD) (d : ((cfg0 (F := F)).win 3).block.Idx → Elt F ((cfg0 (F := F)).win 3).elt) : (dat V c).before 3 t0_0 d = stg3 V c := by
  unfold Dat.before; rw [if_pos (fetch0_3 t0_0)]; rfl

theorem before_4 (c : Dev nD) (d : ((cfg0 (F := F)).win 4).block.Idx → Elt F ((cfg0 (F := F)).win 4).elt) : (dat V c).before 4 t0_0 d = stg4 V c := by
  unfold Dat.before; rw [if_pos (fetch0_4 t0_0)]; rfl

theorem before_5 (c : Dev nD) (d : ((cfg0 (F := F)).win 5).block.Idx → Elt F ((cfg0 (F := F)).win 5).elt) : (dat V c).before 5 t0_0 d = stg5 V c := by
  unfold Dat.before; rw [if_pos (fetch0_5 t0_0)]; rfl

theorem before_6 (c : Dev nD) (d : ((cfg0 (F := F)).win 6).block.Idx → Elt F ((cfg0 (F := F)).win 6).elt) : (dat V c).before 6 t0_0 d = stg6 V c := by
  unfold Dat.before; rw [if_pos (fetch0_6 t0_0)]; rfl

/-- What the pipeline calls at the single grid point is the kernel body on the whole staging buffers. -/
theorem body_eq : defs₀ (F := F) Proc.tc 0 (t0_0, (cfg0 (F := F)).slots t0_0) =
    cc0__prep_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) := rfl

/-- The body on the whole staging buffers: the inputs stay, the result's buffer ends at the block's value. -/
theorem body_whole (c : Dev nD) (f0 : Buf (Elt F) ((c : Thread nD τ).loc cc0_stg0_0)) (f1 : Buf (Elt F) ((c : Thread nD τ).loc cc0_stg1_0)) (f2 : Buf (Elt F) ((c : Thread nD τ).loc cc0_stg2_0)) (f3 : Buf (Elt F) ((c : Thread nD τ).loc cc0_stg3_0)) (f4 : Buf (Elt F) ((c : Thread nD τ).loc cc0_stg4_0)) (f5 : Buf (Elt F) ((c : Thread nD τ).loc cc0_stg5_0)) (f6 : Buf (Elt F) ((c : Thread nD τ).loc cc0_stg6_0)) (f7 : Buf (Elt F) ((c : Thread nD τ).loc cc0_stg7_0))
    (Q : PUnit → sProp 𝕄) :
    iprop(((c : Thread nD τ).loc cc0_stg0_0 ↦{fullShare} f0) ∗ ((c : Thread nD τ).loc cc0_stg1_0 ↦{fullShare} f1) ∗ ((c : Thread nD τ).loc cc0_stg2_0 ↦{fullShare} f2) ∗ ((c : Thread nD τ).loc cc0_stg3_0 ↦{fullShare} f3) ∗ ((c : Thread nD τ).loc cc0_stg4_0 ↦{fullShare} f4) ∗ ((c : Thread nD τ).loc cc0_stg5_0 ↦{fullShare} f5) ∗ ((c : Thread nD τ).loc cc0_stg6_0 ↦{fullShare} f6) ∗ ((c : Thread nD τ).loc cc0_stg7_0 ↦{fullShare} f7) ∗
      (∀ g7, iprop(⌜(g7 : S8x15360.Idx → Elt F .f32) = prepBlk f0 f1 f2 f3 f4 f5 f6⌝ ∗ ((c : Thread nD τ).loc cc0_stg0_0 ↦{fullShare} f0) ∗ ((c : Thread nD τ).loc cc0_stg1_0 ↦{fullShare} f1) ∗ ((c : Thread nD τ).loc cc0_stg2_0 ↦{fullShare} f2) ∗ ((c : Thread nD τ).loc cc0_stg3_0 ↦{fullShare} f3) ∗ ((c : Thread nD τ).loc cc0_stg4_0 ↦{fullShare} f4) ∗ ((c : Thread nD τ).loc cc0_stg5_0 ↦{fullShare} f5) ∗ ((c : Thread nD τ).loc cc0_stg6_0 ↦{fullShare} f6) ∗ ((c : Thread nD τ).loc cc0_stg7_0 ↦{fullShare} g7) -∗ Q ⟨⟩)))
    ⊢ wp frame (wpE (defs₀ (F := F)) Variants.nat (c : Thread nD τ) none) Set.univ (defs₀ (F := F) Proc.tc 0 (t0_0, (cfg0 (F := F)).slots t0_0)) Q := by
  rw [body_eq]
  have h := prep_run (F := F) (arg0 := Memref.whole cc0_stg0_0) (harg0 := Memref.isWhole_whole _) (arg1 := Memref.whole cc0_stg1_0) (harg1 := Memref.isWhole_whole _) (arg2 := Memref.whole cc0_stg2_0) (harg2 := Memref.isWhole_whole _) (arg3 := Memref.whole cc0_stg3_0) (harg3 := Memref.isWhole_whole _) (arg4 := Memref.whole cc0_stg4_0) (harg4 := Memref.isWhole_whole _) (arg5 := Memref.whole cc0_stg5_0) (harg5 := Memref.isWhole_whole _) (arg6 := Memref.whole cc0_stg6_0) (harg6 := Memref.isWhole_whole _) (arg7 := Memref.whole cc0_stg7_0) (harg7 := Memref.isWhole_whole _) c Set.univ f0 f1 f2 f3 f4 f5 f6 f7  Q
  simp only [pt, Memref.view_whole, View.read_whole, View.set_whole] at h
  exact h

/-- The body's obligation. -/
theorem body_obligation (c : Dev nD) : BodyObligation (dat V c) (defs₀ (F := F)) Variants.nat () Set.univ := fun t => by
  obtain rfl := fin_N0 t
  rw [bigSep_W0, bigSep_W0]
  simp only [owns_whole_eq]
  rw [show (dat V c).Φ t0_0.castSucc = Pipeline.scopedRest spec0 c from rfl, show (dat V c).Φ t0_0.succ = Pipeline.scopedRest spec0 c from rfl,
    show (dat V c).owesAt () t0_0.succ = (dat V c).owesAt () t0_0.castSucc from rfl]

  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  have hf0 := hf0.trans (before_0 V c d0)
  have hf1 := hf1.trans (before_1 V c d1)
  have hf2 := hf2.trans (before_2 V c d2)
  have hf3 := hf3.trans (before_3 V c d3)
  have hf4 := hf4.trans (before_4 V c d4)
  have hf5 := hf5.trans (before_5 V c d5)
  have hf6 := hf6.trans (before_6 V c d6)
  iapply (body_whole (F := F) c f0 f1 f2 f3 f4 f5 f6 f7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro %g7 ⟨%hg, H0, H1, H2, H3, H4, H5, H6, H7⟩
  isplitl [HΦ]; · iexact HΦ
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  iexists _; isplitr; swap; (· iexact H7); ipureintro; subst hf0 hf1 hf2 hf3 hf4 hf5 hf6; exact hg

end G0

end Cert.Proof.KI

end
-- ==== Proof.KINms.lean ====
module

public import proofs.«01_k».proof.Proof.KIRows

@[expose] public section

set_option maxRecDepth 16384
set_option maxHeartbeats 4000000

noncomputable section

/-! The suppression kernel's body, run whole. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) {arg0 : Memref sig .tc .vmem S15360x4 .f32} {harg0 : arg0.IsWhole} {arg1 : Memref sig .tc .vmem S1x15360 .f32} {harg1 : arg1.IsWhole} {arg2 : Memref sig .tc .vmem S1x15360 .f32} {harg2 : arg2.IsWhole} {arg3 : Memref sig .tc .vmem S1x15360 .f32} {harg3 : arg3.IsWhole} {arg4 : Memref sig .tc .vmem S1x15360 .f32} {harg4 : arg4.IsWhole} {arg5 : Memref sig .tc .vmem S1x15360 .f32} {harg5 : arg5.IsWhole} {arg6 : Memref sig .tc .vmem S1x15360 .f32} {harg6 : arg6.IsWhole} {arg7 : Memref sig .tc .vmem S8x15360 .f32} {harg7 : arg7.IsWhole} {arg8 : Memref sig .tc .vmem S1x15360 .f32} {harg8 : arg8.IsWhole} {arg9 : Memref sig .tc .vmem S1x15360 .f32} {harg9 : arg9.IsWhole}

/-- The suppression kernel's scratch row when its trips are over, from the rows of box corners, the table of boxes and
the row of flags. -/
def kept (A0 : Tab F) (A1 A2 A3 A4 A6 : Row F) : Row F := rowAt A0 A1 A2 A3 A4 (k1_pay22 A1 A2 A3 A4) (k1_pay23 A6) k1_t1_loop.trips

/-- Every suppression loop the kernel enters ends. -/
def AllEnd (A0 : Tab F) (A1 A2 A3 A4 A6 : Row F) : Prop :=
  ∀ k : Fin k1_t1_loop.trips, Ends (over A0 A1 A2 A3 A4 (k1_pay22 A1 A2 A3 A4) k)
    (cut (R2 k) (rowAt A0 A1 A2 A3 A4 (k1_pay22 A1 A2 A3 A4) (k1_pay23 A6) k))

/-- The suppression kernel's result block, from its arguments. -/
def nmsBlk (A0 : Tab F) (A1 A2 A3 A4 A5 A6 : Row F) : S8x15360.Idx → Elt F .f32 :=
  rows62 (k1_pay30 A1 (kept A0 A1 A2 A3 A4 A6)) (k1_pay31 A2 (kept A0 A1 A2 A3 A4 A6)) (k1_pay1 (k1_pay20 A3) (kept A0 A1 A2 A3 A4 A6))
    (k1_pay2 (k1_pay21 A4) (kept A0 A1 A2 A3 A4 A6)) (k1_pay3 (kept A0 A1 A2 A3 A4 A6) A5) (kept A0 A1 A2 A3 A4 A6) k1_pay4

/-- The suppression kernel's body, run: its arguments kept, its result block filled. -/
theorem nms_run (E : Set ℕ) (f0 : Bf (F := F) c arg0) (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
  (hend : AllEnd (arg0.view.read (Elt F) f0) (arg1.view.read (Elt F) f1) (arg2.view.read (Elt F) f2) (arg3.view.read (Elt F) f3) (arg4.view.read (Elt F) f4) (arg6.view.read (Elt F) f6))
  (Q : PUnit → sProp 𝕄) :
  iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ (∀ g7 g8 g9, iprop(⌜arg7.view.read (Elt F) g7 = nmsBlk (arg0.view.read (Elt F) f0) (arg1.view.read (Elt F) f1) (arg2.view.read (Elt F) f2) (arg3.view.read (Elt F) f3) (arg4.view.read (Elt F) f4) (arg5.view.read (Elt F) f5) (arg6.view.read (Elt F) f6)⌝
        ∗ pt c arg0 f0 ∗ pt c arg1 f1 ∗ pt c arg2 f2 ∗ pt c arg3 f3 ∗ pt c arg4 f4 ∗ pt c arg5 f5 ∗ pt c arg6 f6 ∗ pt c arg7 g7 ∗ pt c arg8 g8 ∗ pt c arg9 g9 -∗ Q ⟨⟩)))
   ⊢ wp frame (wpE (defs₀ (F := F)) Variants.nat (c : Thread nD τ) none) E (cc1__nms_body (F := F) arg0 harg0 arg1 harg1 arg2 harg2 arg3 harg3 arg4 harg4 arg5 harg5 arg6 harg6 arg7 harg7 arg8 harg8 arg9 harg9) Q := by
  rw [cc1__nms_body_eq_skeleton]; unfold cc1__nms_body_skel
  rw [k1_part4_eq_skeleton]; unfold k1_part4_skel
  iintro ⟨H0, H1, H2, H3, H4, H5, H6, H7, H8, H9, Hk⟩
  sl_exec
  have g1 : View.readAt (Elt F) arg1.view R00.toLoadRect f1 = arg1.view.read (Elt F) f1 := readAt_R00 arg1 f1
  have g2 : View.readAt (Elt F) arg2.view R00.toLoadRect f2 = arg2.view.read (Elt F) f2 := readAt_R00 arg2 f2
  have g3 : View.readAt (Elt F) arg3.view R00.toLoadRect f3 = arg3.view.read (Elt F) f3 := readAt_R00 arg3 f3
  have g4 : View.readAt (Elt F) arg4.view R00.toLoadRect f4 = arg4.view.read (Elt F) f4 := readAt_R00 arg4 f4
  have g5 : View.readAt (Elt F) arg5.view R00.toLoadRect f5 = arg5.view.read (Elt F) f5 := readAt_R00 arg5 f5
  have g6 : View.readAt (Elt F) arg6.view R00.toLoadRect f6 = arg6.view.read (Elt F) f6 := readAt_R00 arg6 f6
  have h9 : arg9.view.read (Elt F) (arg9.view.writes (Elt F) f9
      [⟨R00, k1_pay22 (View.readAt (Elt F) arg1.view R00.toLoadRect f1) (View.readAt (Elt F) arg2.view R00.toLoadRect f2)
            (View.readAt (Elt F) arg3.view R00.toLoadRect f3) (View.readAt (Elt F) arg4.view R00.toLoadRect f4)⟩])
      = k1_pay22 (arg1.view.read (Elt F) f1) (arg2.view.read (Elt F) f2) (arg3.view.read (Elt F) f3) (arg4.view.read (Elt F) f4) := by
    rw [g1, g2, g3, g4, read_write_put]
    exact put_R00 _ _
  rw [wp_bind]
  sl_for (inv1 c f0 f1 f2 f3 f4 (arg9.view.writes (Elt F) f9
      [⟨R00, k1_pay22 (View.readAt (Elt F) arg1.view R00.toLoadRect f1) (View.readAt (Elt F) arg2.view R00.toLoadRect f2)
            (View.readAt (Elt F) arg3.view R00.toLoadRect f3) (View.readAt (Elt F) arg4.view R00.toLoadRect f4)⟩]) arg8
            (k1_pay23 (View.readAt (Elt F) arg6.view R00.toLoadRect f6))) $$ [H0 H1 H2 H3 H4 H9 H8]
  case region =>
    intro k x
    exact step1 c E f0 f1 f2 f3 f4 _ _ (by rw [h9, g6]; exact hend) k
  · unfold inv1
    isplitl [H0]; · iexact H0
    isplitl [H1]; · iexact H1
    isplitl [H2]; · iexact H2
    isplitl [H3]; · iexact H3
    isplitl [H4]; · iexact H4
    isplitl [H9]; · iexact H9
    iexists _
    isplitl [H8]; · iexact H8
    ipureintro
    rw [read_write_put]
    exact put_R00 _ _
  unfold inv1
  iintro %_ ⟨H0, H1, H2, H3, H4, H9, %g8, H8, %h8⟩
  rw [h9, g6] at h8
  have g8' : View.readAt (Elt F) arg8.view R00.toLoadRect g8 = kept (arg0.view.read (Elt F) f0) (arg1.view.read (Elt F) f1) (arg2.view.read (Elt F) f2) (arg3.view.read (Elt F) f3) (arg4.view.read (Elt F) f4) (arg6.view.read (Elt F) f6) := (readAt_R00 arg8 g8).trans h8
  sl_exec
  sl_step
  iapply Hk
  isplitr
  swap
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  ipureintro
  refine (read_rows62 arg7.view f7 _ _ _ _ _ _ _).trans ?_
  have e : nms_run.sl.r c f3 = k1_pay20 (arg3.view.read (Elt F) f3) := congrArg k1_pay20 g3
  have e1 : nms_run.sl.r_1 c f4 = k1_pay21 (arg4.view.read (Elt F) f4) := congrArg k1_pay21 g4
  have e2 : nms_run.sl.r_2 c f0 f1 f2 f3 f4 f6 = kept (arg0.view.read (Elt F) f0) (arg1.view.read (Elt F) f1) (arg2.view.read (Elt F) f2) (arg3.view.read (Elt F) f3) (arg4.view.read (Elt F) f4) (arg6.view.read (Elt F) f6) := rfl
  rw [e, e1, e2, g1, g2]
  unfold nmsBlk
  rfl

end Cert.Proof.KI

end
-- ==== Proof.KIReg1.lean ====
module

public import proofs.«01_k».proof.Proof.KINms
public import proofs.«01_k».proof.Proof.Gen.KernelIdeal.Regions
public import proofs.«01_k».proof.Proof.Gen.KernelIdeal.Points
public import Idealize.ShloMosaic.Lib.Pipeline.RegionsLoop
public import Idealize.ShloMosaic.Lib.Tactic

@[expose] public section

set_option maxRecDepth 16384
set_option maxHeartbeats 4000000

noncomputable section

/-! The suppression kernel's region. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf)

namespace G1

variable (V : (c : Dev nD) → (b : Ref sig .tc) → Buf (Elt F) ((c : Thread nD τ).loc b))

/-- Operand 0's block as it is staged: the array, read through the window's block view. -/
abbrev stg0 (c : Dev nD) : ((cfg1 (F := F)).win 0).block.Idx → Elt F ((cfg1 (F := F)).win 0).elt :=
  (((cfg1 (F := F)).win 0).blk t1_0).view.read (Elt F) (V c main_v49)

/-- Operand 1's block as it is staged: the array, read through the window's block view. -/
abbrev stg1 (c : Dev nD) : ((cfg1 (F := F)).win 1).block.Idx → Elt F ((cfg1 (F := F)).win 1).elt :=
  (((cfg1 (F := F)).win 1).blk t1_0).view.read (Elt F) (V c main_v50)

/-- Operand 2's block as it is staged: the array, read through the window's block view. -/
abbrev stg2 (c : Dev nD) : ((cfg1 (F := F)).win 2).block.Idx → Elt F ((cfg1 (F := F)).win 2).elt :=
  (((cfg1 (F := F)).win 2).blk t1_0).view.read (Elt F) (V c main_v51)

/-- Operand 3's block as it is staged: the array, read through the window's block view. -/
abbrev stg3 (c : Dev nD) : ((cfg1 (F := F)).win 3).block.Idx → Elt F ((cfg1 (F := F)).win 3).elt :=
  (((cfg1 (F := F)).win 3).blk t1_0).view.read (Elt F) (V c main_v52)

/-- Operand 4's block as it is staged: the array, read through the window's block view. -/
abbrev stg4 (c : Dev nD) : ((cfg1 (F := F)).win 4).block.Idx → Elt F ((cfg1 (F := F)).win 4).elt :=
  (((cfg1 (F := F)).win 4).blk t1_0).view.read (Elt F) (V c main_v53)

/-- Operand 5's block as it is staged: the array, read through the window's block view. -/
abbrev stg5 (c : Dev nD) : ((cfg1 (F := F)).win 5).block.Idx → Elt F ((cfg1 (F := F)).win 5).elt :=
  (((cfg1 (F := F)).win 5).blk t1_0).view.read (Elt F) (V c main_v54)

/-- Operand 6's block as it is staged: the array, read through the window's block view. -/
abbrev stg6 (c : Dev nD) : ((cfg1 (F := F)).win 6).block.Idx → Elt F ((cfg1 (F := F)).win 6).elt :=
  (((cfg1 (F := F)).win 6).blk t1_0).view.read (Elt F) (V c main_v55)

/-- What the body leaves in its result's staging buffer. -/
abbrev left (c : Dev nD) : S8x15360.Idx → Elt F .f32 :=
  nmsBlk (stg0 V c) (stg1 V c) (stg2 V c) (stg3 V c) (stg4 V c) (stg5 V c) (stg6 V c)

/-- The proof data of the region entered at `V`. -/
def dat (c : Dev nD) : Dat τ (Elt F) Unit ℕ (UR sig nD τ) ℕ (cfg1 (F := F)) c where
  A w := V c (Pipeline.arrRef spec1 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => left V c
  Φ _ := Pipeline.scopedRest (Ix := Unit) (Name := ℕ) (U := UR sig nD τ) (Lvl := ℕ) (Val := Elt F) spec1 c
  q _ := fullShare
  owed _ := 0

theorem before_0 (c : Dev nD) (d : ((cfg1 (F := F)).win 0).block.Idx → Elt F ((cfg1 (F := F)).win 0).elt) : (dat V c).before 0 t1_0 d = stg0 V c := by
  unfold Dat.before; rw [if_pos (fetch1_0 t1_0)]; rfl

theorem before_1 (c : Dev nD) (d : ((cfg1 (F := F)).win 1).block.Idx → Elt F ((cfg1 (F := F)).win 1).elt) : (dat V c).before 1 t1_0 d = stg1 V c := by
  unfold Dat.before; rw [if_pos (fetch1_1 t1_0)]; rfl

theorem before_2 (c : Dev nD) (d : ((cfg1 (F := F)).win 2).block.Idx → Elt F ((cfg1 (F := F)).win 2).elt) : (dat V c).before 2 t1_0 d = stg2 V c := by
  unfold Dat.before; rw [if_pos (fetch1_2 t1_0)]; rfl

theorem before_3 (c : Dev nD) (d : ((cfg1 (F := F)).win 3).block.Idx → Elt F ((cfg1 (F := F)).win 3).elt) : (dat V c).before 3 t1_0 d = stg3 V c := by
  unfold Dat.before; rw [if_pos (fetch1_3 t1_0)]; rfl

theorem before_4 (c : Dev nD) (d : ((cfg1 (F := F)).win 4).block.Idx → Elt F ((cfg1 (F := F)).win 4).elt) : (dat V c).before 4 t1_0 d = stg4 V c := by
  unfold Dat.before; rw [if_pos (fetch1_4 t1_0)]; rfl

theorem before_5 (c : Dev nD) (d : ((cfg1 (F := F)).win 5).block.Idx → Elt F ((cfg1 (F := F)).win 5).elt) : (dat V c).before 5 t1_0 d = stg5 V c := by
  unfold Dat.before; rw [if_pos (fetch1_5 t1_0)]; rfl

theorem before_6 (c : Dev nD) (d : ((cfg1 (F := F)).win 6).block.Idx → Elt F ((cfg1 (F := F)).win 6).elt) : (dat V c).before 6 t1_0 d = stg6 V c := by
  unfold Dat.before; rw [if_pos (fetch1_6 t1_0)]; rfl

/-- What the pipeline calls at the single grid point is the kernel body on the whole staging buffers. -/
theorem body_eq : defs₀ (F := F) Proc.tc 1 (t1_0, (cfg1 (F := F)).slots t1_0) =
    cc1__nms_body (F := F) (Memref.whole cc1_stg0_0) (Memref.isWhole_whole _) (Memref.whole cc1_stg1_0) (Memref.isWhole_whole _) (Memref.whole cc1_stg2_0) (Memref.isWhole_whole _) (Memref.whole cc1_stg3_0) (Memref.isWhole_whole _) (Memref.whole cc1_stg4_0) (Memref.isWhole_whole _) (Memref.whole cc1_stg5_0) (Memref.isWhole_whole _) (Memref.whole cc1_stg6_0) (Memref.isWhole_whole _) (Memref.whole cc1_stg7_0) (Memref.isWhole_whole _) (Memref.whole cc1_scratch0) (Memref.isWhole_whole _) (Memref.whole cc1_scratch1) (Memref.isWhole_whole _) := rfl

/-- The body on the whole staging buffers: the inputs stay, the result's buffer ends at the block's value. -/
theorem body_whole (c : Dev nD) (f0 : Buf (Elt F) ((c : Thread nD τ).loc cc1_stg0_0)) (f1 : Buf (Elt F) ((c : Thread nD τ).loc cc1_stg1_0)) (f2 : Buf (Elt F) ((c : Thread nD τ).loc cc1_stg2_0)) (f3 : Buf (Elt F) ((c : Thread nD τ).loc cc1_stg3_0)) (f4 : Buf (Elt F) ((c : Thread nD τ).loc cc1_stg4_0)) (f5 : Buf (Elt F) ((c : Thread nD τ).loc cc1_stg5_0)) (f6 : Buf (Elt F) ((c : Thread nD τ).loc cc1_stg6_0)) (f7 : Buf (Elt F) ((c : Thread nD τ).loc cc1_stg7_0)) (f8 : Buf (Elt F) ((c : Thread nD τ).loc cc1_scratch0)) (f9 : Buf (Elt F) ((c : Thread nD τ).loc cc1_scratch1))
    (hend : AllEnd (F := F) f0 f1 f2 f3 f4 f6)
    (Q : PUnit → sProp 𝕄) :
    iprop(((c : Thread nD τ).loc cc1_stg0_0 ↦{fullShare} f0) ∗ ((c : Thread nD τ).loc cc1_stg1_0 ↦{fullShare} f1) ∗ ((c : Thread nD τ).loc cc1_stg2_0 ↦{fullShare} f2) ∗ ((c : Thread nD τ).loc cc1_stg3_0 ↦{fullShare} f3) ∗ ((c : Thread nD τ).loc cc1_stg4_0 ↦{fullShare} f4) ∗ ((c : Thread nD τ).loc cc1_stg5_0 ↦{fullShare} f5) ∗ ((c : Thread nD τ).loc cc1_stg6_0 ↦{fullShare} f6) ∗ ((c : Thread nD τ).loc cc1_stg7_0 ↦{fullShare} f7) ∗ ((c : Thread nD τ).loc cc1_scratch0 ↦{fullShare} f8) ∗ ((c : Thread nD τ).loc cc1_scratch1 ↦{fullShare} f9) ∗
      (∀ g7 g8 g9, iprop(⌜(g7 : S8x15360.Idx → Elt F .f32) = nmsBlk f0 f1 f2 f3 f4 f5 f6⌝ ∗ ((c : Thread nD τ).loc cc1_stg0_0 ↦{fullShare} f0) ∗ ((c : Thread nD τ).loc cc1_stg1_0 ↦{fullShare} f1) ∗ ((c : Thread nD τ).loc cc1_stg2_0 ↦{fullShare} f2) ∗ ((c : Thread nD τ).loc cc1_stg3_0 ↦{fullShare} f3) ∗ ((c : Thread nD τ).loc cc1_stg4_0 ↦{fullShare} f4) ∗ ((c : Thread nD τ).loc cc1_stg5_0 ↦{fullShare} f5) ∗ ((c : Thread nD τ).loc cc1_stg6_0 ↦{fullShare} f6) ∗ ((c : Thread nD τ).loc cc1_stg7_0 ↦{fullShare} g7) ∗ ((c : Thread nD τ).loc cc1_scratch0 ↦{fullShare} g8) ∗ ((c : Thread nD τ).loc cc1_scratch1 ↦{fullShare} g9) -∗ Q ⟨⟩)))
    ⊢ wp frame (wpE (defs₀ (F := F)) Variants.nat (c : Thread nD τ) none) Set.univ (defs₀ (F := F) Proc.tc 1 (t1_0, (cfg1 (F := F)).slots t1_0)) Q := by
  rw [body_eq]
  have h := nms_run (F := F) (arg0 := Memref.whole cc1_stg0_0) (harg0 := Memref.isWhole_whole _) (arg1 := Memref.whole cc1_stg1_0) (harg1 := Memref.isWhole_whole _) (arg2 := Memref.whole cc1_stg2_0) (harg2 := Memref.isWhole_whole _) (arg3 := Memref.whole cc1_stg3_0) (harg3 := Memref.isWhole_whole _) (arg4 := Memref.whole cc1_stg4_0) (harg4 := Memref.isWhole_whole _) (arg5 := Memref.whole cc1_stg5_0) (harg5 := Memref.isWhole_whole _) (arg6 := Memref.whole cc1_stg6_0) (harg6 := Memref.isWhole_whole _) (arg7 := Memref.whole cc1_stg7_0) (harg7 := Memref.isWhole_whole _) (arg8 := Memref.whole cc1_scratch0) (harg8 := Memref.isWhole_whole _) (arg9 := Memref.whole cc1_scratch1) (harg9 := Memref.isWhole_whole _) c Set.univ f0 f1 f2 f3 f4 f5 f6 f7 f8 f9 hend Q
  simp only [pt, Memref.view_whole, View.read_whole, View.set_whole] at h
  exact h

/-- The body's obligation. -/
theorem body_obligation (c : Dev nD) (hend : AllEnd (F := F) (stg0 V c) (stg1 V c) (stg2 V c) (stg3 V c) (stg4 V c) (stg6 V c)) : BodyObligation (dat V c) (defs₀ (F := F)) Variants.nat () Set.univ := fun t => by
  obtain rfl := fin_N1 t
  rw [bigSep_W1, bigSep_W1]
  simp only [owns_whole_eq]
  rw [show (dat V c).Φ t1_0.castSucc = Pipeline.scopedRest spec1 c from rfl, show (dat V c).Φ t1_0.succ = Pipeline.scopedRest spec1 c from rfl,
    show (dat V c).owesAt () t1_0.succ = (dat V c).owesAt () t1_0.castSucc from rfl]
  rw [scopedRest1_eq]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  have hf0 := hf0.trans (before_0 V c d0)
  have hf1 := hf1.trans (before_1 V c d1)
  have hf2 := hf2.trans (before_2 V c d2)
  have hf3 := hf3.trans (before_3 V c d3)
  have hf4 := hf4.trans (before_4 V c d4)
  have hf5 := hf5.trans (before_5 V c d5)
  have hf6 := hf6.trans (before_6 V c d6)
  icases HΦ with ⟨R0, R1, R2, R3, R4, R5, R6, R7, ⟨%f8, H8⟩, ⟨%f9, H9⟩⟩
  iapply (body_whole (F := F) c f0 f1 f2 f3 f4 f5 f6 f7 f8 f9 (by subst hf0 hf1 hf2 hf3 hf4 hf5 hf6; exact hend))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %g7 %g8 %g9 ⟨%hg, H0, H1, H2, H3, H4, H5, H6, H7, H8, H9⟩
  isplitl [R0 R1 R2 R3 R4 R5 R6 R7 H8 H9]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [H8]; · iexists _; iexact H8
    iexists _; iexact H9
  isplitl [Howes]; · iexact Howes
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H6]; · iexists _; isplitr; swap; (· iexact H6); ipureintro; exact hf6
  iexists _; isplitr; swap; (· iexact H7); ipureintro; subst hf0 hf1 hf2 hf3 hf4 hf5 hf6; exact hg

end G1

end Cert.Proof.KI

end
-- ==== Proof.KISegs.lean ====
module

public import proofs.«01_k».proof.Proof.KIReg0
public import proofs.«01_k».proof.Proof.KIReg1
public import proofs.«01_k».proof.Proof.Gen.KernelIdeal.Launch
public import Idealize.ShloMosaic.Lib.Pipeline.RegionsLoop
public import Idealize.ShloMosaic.Lib.Tactic

@[expose] public section

set_option maxRecDepth 16384
set_option maxHeartbeats 4000000

noncomputable section

/-! The two regions as segments of the run. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf)

/-- No level is assigned. -/
abbrev L : GSem nD τ sig → Finset Unit := fun _ => ∅
abbrev lv : GSem nD τ sig → Unit → ℕ := fun _ _ => 0
abbrev UU := UR sig nD τ

/-- The state of a core between the launch and the end: what it owes. -/
abbrev Rest (c : Dev nD) : sProp 𝕄 := iprop(∃ W, owes (c : Thread nD τ) (0 : CellTallies nD τ sig Unit) W)

section
variable (Va Vb : (c : Dev nD) → (b : Ref sig .tc) → Buf (Elt F) ((c : Thread nD τ).loc b))

/-- The two regions' proof data, the first entered at `Va`, the second at `Vb`. -/
def pd : (p : Fin 2) → (c : Dev nD) → Dat τ (Elt F) Unit ℕ UU ℕ ((cfgs (F := F)) p) c
  | ⟨0, _⟩ => fun c => G0.dat Va c
  | ⟨1, _⟩ => fun c => G1.dat Vb c

set_option backward.isDefEq.respectTransparency.types false in
/-- Region 0, entered at the unscoped buffers' contents `Va` and left at `Vp`. -/
def reg0
    (Vp : (c : Dev nD) → (b : Ref sig .tc) → Buf (Elt F) ((c : Thread nD τ).loc b))
    (hVp_out : ∀ c, Vp c main_v37 = (G0.dat Va c).arrAt 7 (cfg0 (F := F)).N)
    (hVp_ne : ∀ c (b : Ref sig .tc), b ≠ main_v37 → Vp c b = Va c b) :
    Pipeline.RegionSeg (pcfgs (F := F)) adm (pd Va Vb) () defs₀ Variants.nat L lv 0 where
  win := launch0.win.to₀
  block_pos := launch0.block_pos
  stage_whole := launch0.stage_whole
  K := PEmpty
  osem k := k.elim
  ho := Pipeline.OwnSemFacts.none _
  hbody c := (G0.body_obligation Va c).loose
  hwaits := Pipeline.hwaits_of_owed_zero _ _ _ _ L lv 0 fun _ _ => rfl
  pre c := iprop(unscopedBufs c (Va c) ∗ Rest c)
  post c := iprop(unscopedBufs c (Vp c) ∗ Rest c)
  X _ := BI.emp
  Y _ := BI.emp
  Z c := Pipeline.unscopedRest (Ix := Unit) (Name := ℕ) (U := UU) (Lvl := ℕ) spec0 c (Va c)
  hentry c := by
    rw [Pipeline.ownSems0_none]
    have hsplit := Pipeline.arrays_of_unscopedBufs (p := 0) (pcfgs (F := F)) adm (pd Va Vb) launch0.win launch0.arr_whole c
      ((pd Va Vb 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pd Va Vb 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pd Va Vb 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pd Va Vb) ((pd Va Vb 0 c).share_full fun _ => rfl) (Va c) (Vp c) ((pd Va Vb 0 c).arrAt · cfg0.N)
      (fun w => by
        fin_cases w
        · exact ((pd Va Vb 0 c).arrAt_in 0 rfl _).trans (hVp_ne c main_v6 (by decide)).symm
        · exact ((pd Va Vb 0 c).arrAt_in 1 rfl _).trans (hVp_ne c main_v12 (by decide)).symm
        · exact ((pd Va Vb 0 c).arrAt_in 2 rfl _).trans (hVp_ne c main_v18 (by decide)).symm
        · exact ((pd Va Vb 0 c).arrAt_in 3 rfl _).trans (hVp_ne c main_v24 (by decide)).symm
        · exact ((pd Va Vb 0 c).arrAt_in 4 rfl _).trans (hVp_ne c main_v28 (by decide)).symm
        · exact ((pd Va Vb 0 c).arrAt_in 5 rfl _).trans (hVp_ne c main_v32 (by decide)).symm
        · exact ((pd Va Vb 0 c).arrAt_in 6 rfl _).trans (hVp_ne c main_v36 (by decide)).symm
        · exact (hVp_out c).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1, entered at the unscoped buffers' contents `Vb` and left at `Vp`. -/
def reg1
    (hend : ∀ c, AllEnd (F := F) (G1.stg0 Vb c) (G1.stg1 Vb c) (G1.stg2 Vb c) (G1.stg3 Vb c) (G1.stg4 Vb c) (G1.stg6 Vb c))
    (Vp : (c : Dev nD) → (b : Ref sig .tc) → Buf (Elt F) ((c : Thread nD τ).loc b))
    (hVp_out : ∀ c, Vp c main_v56 = (G1.dat Vb c).arrAt 7 (cfg1 (F := F)).N)
    (hVp_ne : ∀ c (b : Ref sig .tc), b ≠ main_v56 → Vp c b = Vb c b) :
    Pipeline.RegionSeg (pcfgs (F := F)) adm (pd Va Vb) () defs₀ Variants.nat L lv 1 where
  win := launch1.win.to₀
  block_pos := launch1.block_pos
  stage_whole := launch1.stage_whole
  K := PEmpty
  osem k := k.elim
  ho := Pipeline.OwnSemFacts.none _
  hbody c := (G1.body_obligation Vb c (hend c)).loose
  hwaits := Pipeline.hwaits_of_owed_zero _ _ _ _ L lv 1 fun _ _ => rfl
  pre c := iprop(unscopedBufs c (Vb c) ∗ Rest c)
  post c := iprop(unscopedBufs c (Vp c) ∗ Rest c)
  X _ := BI.emp
  Y _ := BI.emp
  Z c := Pipeline.unscopedRest (Ix := Unit) (Name := ℕ) (U := UU) (Lvl := ℕ) spec1 c (Vb c)
  hentry c := by
    rw [Pipeline.ownSems0_none]
    have hsplit := Pipeline.arrays_of_unscopedBufs (p := 1) (pcfgs (F := F)) adm (pd Va Vb) launch1.win launch1.arr_whole c
      ((pd Va Vb 1 c).share_full fun _ => rfl) (Vb c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pd Va Vb 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pd Va Vb 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pd Va Vb) ((pd Va Vb 1 c).share_full fun _ => rfl) (Vb c) (Vp c) ((pd Va Vb 1 c).arrAt · cfg1.N)
      (fun w => by
        fin_cases w
        · exact ((pd Va Vb 1 c).arrAt_in 0 rfl _).trans (hVp_ne c main_v49 (by decide)).symm
        · exact ((pd Va Vb 1 c).arrAt_in 1 rfl _).trans (hVp_ne c main_v50 (by decide)).symm
        · exact ((pd Va Vb 1 c).arrAt_in 2 rfl _).trans (hVp_ne c main_v51 (by decide)).symm
        · exact ((pd Va Vb 1 c).arrAt_in 3 rfl _).trans (hVp_ne c main_v52 (by decide)).symm
        · exact ((pd Va Vb 1 c).arrAt_in 4 rfl _).trans (hVp_ne c main_v53 (by decide)).symm
        · exact ((pd Va Vb 1 c).arrAt_in 5 rfl _).trans (hVp_ne c main_v54 (by decide)).symm
        · exact ((pd Va Vb 1 c).arrAt_in 6 rfl _).trans (hVp_ne c main_v55 (by decide)).symm
        · exact (hVp_out c).symm)
      (fun b hb => hVp_ne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end

end Cert.Proof.KI

end
-- ==== Proof.KIRun.lean ====
module

public import proofs.«01_k».proof.Proof.KISegs
public import Idealize.ShloMosaic.Lib.Pipeline.RegionsLoop
public import Idealize.ShloMosaic.Lib.Tactic

@[expose] public section

set_option maxRecDepth 16384
set_option maxHeartbeats 4000000

noncomputable section

/-! The whole run: what the result holds at the end. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf Seg HostSeg RegionSeg)
open Idealize.ShloMosaic.Rounds

variable (m : (ℓ : Loc nD τ sig) → Buf (Elt F) ℓ) (ρ : Dev nD → PrngReg)

/-- The buffers' contents where the preparing kernel starts. -/
abbrev Wa (c : Dev nD) (b : Ref sig .tc) : Buf (Elt F) ((c : Thread nD τ).loc b) := V1 m c b

/-- The preparing kernel's result. -/
def resA (c : Dev nD) : Buf (Elt F) ((c : Thread nD τ).loc main_v37) := (G0.dat (Wa m) c).arrAt 7 (cfg0 (F := F)).N

/-- What the preparing kernel leaves, before the suppression kernel has run. -/
def outA : Outs (F := F) := fun _ b c => Function.update (fun b : Ref sig .tc => m ((c : Thread nD τ).loc b)) main_v37 (resA m c) b

/-- The buffers' contents where the suppression kernel starts. -/
abbrev Wb (c : Dev nD) (b : Ref sig .tc) : Buf (Elt F) ((c : Thread nD τ).loc b) := V5 m (outA m) c b

/-- The suppression kernel's result. -/
def resB (c : Dev nD) : Buf (Elt F) ((c : Thread nD τ).loc main_v56) := (G1.dat (Wb m) c).arrAt 7 (cfg1 (F := F)).N

/-- What the two kernels leave in their result arrays. -/
def outB : Outs (F := F) := fun j b c =>
  if j = 2 then outA m j b c
  else Function.update (fun b : Ref sig .tc => m ((c : Thread nD τ).loc b)) main_v56 (resB m c) b

theorem outA_v37 (j : ℕ) (c : Dev nD) : outA m j main_v37 c = resA m c := by
  unfold outA; rw [Function.update_self]

theorem outB_two (b : Ref sig .tc) (c : Dev nD) : outB m 2 b c = outA m 2 b c := if_pos rfl

theorem outB_v56 (c : Dev nD) : outB m 6 main_v56 c = resB m c := by
  unfold outB; rw [if_neg (by decide), Function.update_self]

theorem V2_outB (c : Dev nD) : V2 m (outB m) c = V2 m (outA m) c := by
  simp only [V2, outB_two]

theorem V5_outB (c : Dev nD) : V5 m (outB m) c = V5 m (outA m) c := by
  exact congrArg (fun v => StableHlo.after hostOps1_2 (StableHlo.after hostOps1_1 (StableHlo.after hostOps1 v))) (V2_outB m c)

/-- Every buffer that the preparing kernel does not write is as before it. -/
theorem V2_ne (c : Dev nD) (b : Ref sig .tc) (h : b ≠ main_v37) : V2 m (outB m) c b = Wa m c b :=
  V2_of m (outB m) c b (by simpa using h)

theorem V2_out (c : Dev nD) : V2 m (outB m) c main_v37 = resA m c := by
  rw [← outA_v37 m 2 c, ← outB_two]; simp only [V2, Function.update_self]

/-- Every buffer that the suppression kernel does not write is as before it. -/
theorem V6_ne (c : Dev nD) (b : Ref sig .tc) (h : b ≠ main_v56) : V6 m (outB m) c b = Wb m c b :=
  (V6_of m (outB m) c b (by simpa using h)).trans (congrFun (V5_outB m c) _)

theorem V6_out (c : Dev nD) : V6 m (outB m) c main_v56 = resB m c := by
  rw [← outB_v56 m c]; simp only [V6, Function.update_self]

/-- In every block of the suppression kernel the inner loop comes to its end. -/
def Ends' : Prop := ∀ c, AllEnd (F := F) (G1.stg0 (Wb m) c) (G1.stg1 (Wb m) c) (G1.stg2 (Wb m) c) (G1.stg3 (Wb m) c) (G1.stg4 (Wb m) c) (G1.stg6 (Wb m) c)

/-- The first region between the host stretches around it. -/
def regA : RegionSeg (pcfgs (F := F)) adm (pd (Wa m) (Wb m)) () defs₀ Variants.nat L lv 0 :=
  reg0 (Wa m) (Wb m) (fun c b => V2 m (outB m) c b) (V2_out m) (V2_ne m)

/-- The second region between the host stretches around it. -/
def regB (hend : Ends' m) : RegionSeg (pcfgs (F := F)) adm (pd (Wa m) (Wb m)) () defs₀ Variants.nat L lv 1 :=
  reg1 (Wa m) (Wb m) hend (fun c b => V6 m (outB m) c b) (V6_out m) (V6_ne m)

/-- The thread states' rest. -/
abbrev E' : Fin 3 → Dev nD → sProp 𝕄 := fun _ c => Rest (F := F) c

theorem pre0 (c : Dev nD) : iprop(StableHlo.held (c : Thread nD τ) (Pipeline.ucRefs τ sig) (V1 m c) ∗ E' 0 c) ⊢ (regA m).pre c := by
  rw [← Pipeline.unscopedBufs_held (Ix := Unit) (Name := ℕ) (U := UU) (Lvl := ℕ) c (V1 m c)]; exact .rfl

theorem post0 (c : Dev nD) : (regA m).post c ⊢ iprop(StableHlo.held (c : Thread nD τ) (Pipeline.ucRefs τ sig) (V2 m (outB m) c) ∗ E' 1 c) := by
  rw [← Pipeline.unscopedBufs_held (Ix := Unit) (Name := ℕ) (U := UU) (Lvl := ℕ) c (V2 m (outB m) c)]; exact .rfl

theorem pre1 (hend : Ends' m) (c : Dev nD) : iprop(StableHlo.held (c : Thread nD τ) (Pipeline.ucRefs τ sig) (V5 m (outB m) c) ∗ E' 1 c) ⊢ (regB m hend).pre c := by
  rw [V5_outB, ← Pipeline.unscopedBufs_held (Ix := Unit) (Name := ℕ) (U := UU) (Lvl := ℕ) c (V5 m (outA m) c)]; exact .rfl

theorem post1 (hend : Ends' m) (c : Dev nD) : (regB m hend).post c ⊢ iprop(StableHlo.held (c : Thread nD τ) (Pipeline.ucRefs τ sig) (V6 m (outB m) c) ∗ E' 2 c) := by
  rw [← Pipeline.unscopedBufs_held (Ix := Unit) (Name := ℕ) (U := UU) (Lvl := ℕ) c (V6 m (outB m) c)]; exact .rfl

set_option backward.isDefEq.respectTransparency.types false in
/-- From any memory with the counters at zero, the program ends; the result is what the last valuation holds, the
    arguments are as launched and every counter is at zero. -/
theorem run (hend : Ends' m) : θ_run defs (onTc (τ := τ) (main (F := F))) ⟨m, fun _ => 0, ρ⟩ (fun r => (∀ c : Dev nD,
      r.2.mem ((c.tc : Thread nD τ).loc main_v67) = V8 m (outB m) c main_v67
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pd (Wa m) (Wb m)) () cellOf_inj emb₁ defs₀ Variants.nat L lv m ρ main
    (segs m (outB m) Variants.nat L lv E' () (pd (Wa m) (Wb m)) (regA m) (regB m hend))
    (fun c Q => by
      rewrite [main_chain c, Seg.run_eq_chain,
        show (segs m (outB m) Variants.nat L lv E' () (pd (Wa m) (Wb m)) (regA m) (regB m hend) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1 ] from rfl]
      dsimp (config := { failIfUnchanged := false }) only
      exact .rfl)
    (fun c => by simp only [segs, Seg.pipes_host, Seg.pipes_region, Seg.pipes_nil]; decide) (O₀ := 0) (hL := fun _ _ => rfl)
    (G := fun _ => iprop(emp)) (u₀ := initOf (Pipeline.cells (cfgs (F := F)) cellOf_inj) (Pipeline.launchToks (cfgs (F := F)) cellOf_inj))
    (hu₀ := by
      iintro Hu; imodintro
      isplitl [Hu]
      · iapply (show (ownU _ : sProp 𝕄) ⊢ BI.own (emb₁ (initOf (Pipeline.cells (cfgs (F := F)) cellOf_inj) (Pipeline.launchToks (cfgs (F := F)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E' 0 c))
    (Tₙ := fun c => StableHlo.held (c : Thread nD τ) (Pipeline.ucRefs τ sig) (V8 m (outB m) c))
    (hch := fun c => ⟨.rfl, pre0 m c, post0 m c, .rfl, .rfl, pre1 m hend c, post1 m hend c, .rfl, .rfl⟩)
    (hinit := ?_)
    (QY := fun c s => s.mem ((c.tc : Thread nD τ).loc main_v67) = V8 m (outB m) c main_v67 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V8 m (outB m) c) s') $$ [Hh HSI]
    · isplitl [Hh] <;> iassumption
    icases Hr with ⟨%h, HSI⟩
    imodintro
    isplitr
    · ipureintro
      exact ⟨h (Proc.devRef .tc main_v67) (Finset.mem_filter.mpr ⟨StableHlo.devRef_mem_tcRefs _, by decide⟩),
        (h (Proc.devRef .tc main_arg0) (Finset.mem_filter.mpr ⟨StableHlo.devRef_mem_tcRefs _, by decide⟩)).trans (V8_main_arg0 m _ c),
        (h (Proc.devRef .tc main_arg1) (Finset.mem_filter.mpr ⟨StableHlo.devRef_mem_tcRefs _, by decide⟩)).trans (V8_main_arg1 m _ c),
        (h (Proc.devRef .tc main_arg2) (Finset.mem_filter.mpr ⟨StableHlo.devRef_mem_tcRefs _, by decide⟩)).trans (V8_main_arg2 m _ c)⟩
    · iexact HSI

end Cert.Proof.KI

end
-- ==== Proof.KIPt.lean ====
module

public import proofs.«01_k».proof.Proof.KIBody
public import Idealize.ShloMosaic.Lib.Pointwise
public import Idealize.ShloMosaic.Lib.WordCmp

@[expose] public section

set_option maxRecDepth 16384
set_option maxHeartbeats 4000000

noncomputable section

/-! The operations of the suppression kernel at one element, over the extended reals. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The numbers of the program: the overlap threshold, the smallest union area, one half. -/
abbrev thr : EReal := Ideal.ofBits FTy.f32 0x3DCCCCCD#32
abbrev tiny : EReal := Ideal.ofBits FTy.f32 0x2B8CBCCC#32
abbrev half : EReal := Ideal.ofBits FTy.f32 0x3F000000#32

theorem half_val : half = ((1 / 2 : ℝ) : EReal) := by
  simp [half, Ideal.ofBits, Ideal.ieee, -EReal.coe_mul]; norm_num
theorem half_pos : (0 : EReal) ≤ half := by
  rw [half_val]; exact EReal.coe_nonneg.mpr (by norm_num)
theorem half_lt : half < 1 := by
  rw [half_val, show (1 : EReal) = ((1 : ℝ) : EReal) from by norm_cast]; exact EReal.coe_lt_coe_iff.mpr (by norm_num)
/-- The word of minus infinity is not above zero. -/
theorem bot_le : ¬ ((0 : EReal) < Ideal.ofBits FTy.f32 4286578688#32) := by
  simp [Ideal.ofBits, Ideal.ieee]

/-- Two rows are equal if they are at every column. -/
theorem row_ext {n : ℕ} {α : Type} (u w : (⟨2, ![1, n]⟩ : Shape).Idx → α) (h : ∀ j : Fin n, u (ix2 0 j) = w (ix2 0 j)) : u = w := by
  funext x
  have e : x = ix2 (0 : Fin 1) (x 1) := (eq_ix2 x).trans (congrArg (fun t : Fin 1 => ix2 t (x 1)) (Subsingleton.elim (α := Fin 1) (x 0) 0))
  rw [e]
  exact h (x 1)

/-- The area of a box. -/
def area (a0 a1 a2 a3 : EReal) : EReal := max (a2 - a0) 0 * max (a3 - a1) 0

/-- The area two boxes share. -/
def inter (a0 a1 a2 a3 b0 b1 b2 b3 : EReal) : EReal := max (min a2 b2 - max a0 b0) 0 * max (min a3 b3 - max a1 b1) 0

/-- The overlap of two boxes over their union, from the boxes and their areas. -/
def iou (a0 a1 a2 a3 ar b0 b1 b2 b3 br : EReal) : EReal :=
  Ideal.div (inter a0 a1 a2 a3 b0 b1 b2 b3) (max (ar + br - inter a0 a1 a2 a3 b0 b1 b2 b3) tiny)

/-- A flag as a number. -/
def bit (p : Prop) : EReal := open Classical in if p then 1 else 0

theorem ite_bit (p : Prop) [Decidable p] : (if p then (1 : EReal) else 0) = bit p := by unfold bit; congr
theorem bit_one {p : Prop} (h : p) : bit p = 1 := by unfold bit; rw [if_pos h]
theorem bit_zero {p : Prop} (h : ¬ p) : bit p = 0 := by unfold bit; rw [if_neg h]
theorem bit_eq_one {p : Prop} : bit p = 1 ↔ p := by
  unfold bit; split <;> simp_all
theorem bit_nonneg (p : Prop) : 0 ≤ bit p := by unfold bit; split <;> simp
theorem half_lt_bit {p : Prop} : half < bit p ↔ p := by
  by_cases h : p
  · rw [bit_one h]; simp only [h, iff_true]; exact half_lt
  · rw [bit_zero h]; simp only [h, iff_false, not_lt]; exact half_pos
theorem bit_congr {p q : Prop} (h : p ↔ q) : bit p = bit q := by rw [propext h]

/-- A sum of products of flags exceeds one half just if some pair of flags is set. -/
theorem half_lt_sum {n : ℕ} (p q : Fin n → Prop) : half < ∑ x, bit (p x) * bit (q x) ↔ ∃ x, p x ∧ q x := by
  have hm : ∀ x, bit (p x) * bit (q x) = bit (p x ∧ q x) := fun x => by
    by_cases h1 : p x <;> by_cases h2 : q x <;> simp [bit, h1, h2]
  simp only [hm]
  constructor
  · intro h
    by_contra hc
    have : ∑ x, bit (p x ∧ q x) = 0 := Finset.sum_eq_zero fun x _ => bit_zero fun hx => hc ⟨x, hx⟩
    rw [this] at h
    exact absurd h (not_lt.mpr half_pos)
  · rintro ⟨x, hx⟩
    refine lt_of_lt_of_le half_lt ?_
    rw [← bit_one hx]
    exact Finset.single_le_sum (f := fun x => bit (p x ∧ q x)) (fun i _ => bit_nonneg _) (Finset.mem_univ x)

/-- One round of the suppression loop, at a column. -/
theorem pay5_at (O : FVec Ideal S128x128 .f32) (v a : FVec Ideal S1x128 .f32) (j : Fin 128) :
    (k1_pay5 O v a (ix2 0 j) : EReal) = open Classical in if half < ∑ x : Fin 128, (a (ix2 0 x) : EReal) * O (ix2 x j) then 0 else v (ix2 0 j) := by
  pointwise [k1_pay5]

/-- The loop's flag is down just if the round changed nothing. -/
theorem flag_iff (O : FVec Ideal S128x128 .f32) (v a : FVec Ideal S1x128 .f32) :
    Scalar.cmpf .ogt (k1_pay6 O v a) (Scalar.ofBits (F := Ideal) .f32 0x00000000#32) ≠ 1#1 ↔ k1_pay5 O v a = a := by
  have e : (k1_pay6 O v a : EReal) = Finset.fold max (Ideal.ofBits FTy.f32 4286578688#32) (fun x : Fin 1 × Fin 128 => if k1_pay5 O v a (ix2 0 x.2) ≠ a (ix2 0 x.2) then (1 : EReal) else 0) Finset.univ := by
    pointwise [k1_pay6]
  have hc : Scalar.cmpf .ogt (k1_pay6 O v a) (Scalar.ofBits (F := Ideal) .f32 0x00000000#32) = 1#1 ↔ (0 : EReal) < k1_pay6 O v a := by
    pointwise; exact WordCmp.ofBool_decide_eq_one_iff _
  rw [ne_eq, hc, e, Finset.lt_fold_max]
  constructor
  · intro h
    refine row_ext _ _ fun j => ?_
    by_contra hx
    refine h (Or.inr ⟨(0, j), Finset.mem_univ _, ?_⟩)
    rw [if_pos hx]; exact zero_lt_one
  · rintro h (h' | ⟨x, -, hx⟩)
    · exact bot_le h'
    · rw [if_neg (by rw [h]; simp)] at hx
      exact lt_irrefl _ hx

/-- The flag that some box of the block survives. -/
theorem some1_iff (p : Fin 128 → Prop) (r : FVec Ideal S1x128 .f32) (hr : ∀ j : Fin 128, (r (ix2 0 j) : EReal) = bit (p j)) :
    some1 r = 1#1 ↔ ∃ j, p j := by
  have e : (k1_pay27 r : EReal) = ∑ x : Fin 128, bit (p x) := by
    pointwise [k1_pay27]
    rw [Fin.sum_univ_one]
    exact Finset.sum_congr rfl fun x _ => hr x
  have h1 : some1 r = 1#1 ↔ (0 : EReal) < k1_pay27 r := by
    unfold some1
    by_cases h : (0 : EReal) < k1_pay27 r
    · rw [show Scalar.cmpf .ogt (k1_pay27 r) (Scalar.ofBits (F := Ideal) .f32 0x00000000#32) = 1#1 from by pointwise; exact (WordCmp.ofBool_decide_eq_one_iff _).mpr h]
      simp only [h, iff_true]; decide
    · rw [show Scalar.cmpf .ogt (k1_pay27 r) (Scalar.ofBits (F := Ideal) .f32 0x00000000#32) = 0#1 from by pointwise; rw [decide_eq_false h]; rfl]
      simp only [h, iff_false]; decide
  rw [h1, e]
  constructor
  · intro h
    by_contra hc
    rw [Finset.sum_eq_zero fun x _ => bit_zero fun hx => hc ⟨x, hx⟩] at h
    exact lt_irrefl _ h
  · rintro ⟨x, hx⟩
    refine lt_of_lt_of_le zero_lt_one ?_
    rw [← bit_one hx]
    exact Finset.single_le_sum (f := fun x => bit (p x)) (fun i _ => bit_nonneg _) (Finset.mem_univ x)

theorem select_eq {α : Type} (c : BitVec 1) (x y : α) : Scalar.select c x y = if c = 1#1 then x else y := by
  rcases BitVec.eq_zero_or_eq_one c with rfl | rfl <;> rfl
theorem andi_one (a b : BitVec 1) : IntOp.andi a b = 1#1 ↔ a = 1#1 ∧ b = 1#1 := by revert a b; decide
theorem cmp_eq : ∀ i x : Fin 128, IntOp.cmpi CmpIPredicate.eq (BitVec.ofNat 32 ↑i) (BitVec.ofNat 32 ↑x) = BitVec.ofBool (decide (i = x)) := by
  decide +kernel
theorem cmp_lt : ∀ i x : Fin 128, IntOp.cmpi CmpIPredicate.slt (BitVec.ofNat 32 ↑i) (BitVec.ofNat 32 ↑x) = BitVec.ofBool (decide (i.val < x.val)) := by
  decide +kernel

/-- The survivors as a column. -/
theorem pay26_at (r : FVec Ideal S1x128 .f32) (i : Fin 128) : (k1_pay26 r (ix2 i 0) : EReal) = r (ix2 0 i) := by
  pointwise [k1_pay26]
  rw [Finset.sum_eq_single i]
  · rw [(cmp_eq i i).trans (by rw [decide_eq_true rfl])]; rfl
  · intro x _ hx
    rw [(cmp_eq i x).trans (by rw [decide_eq_false (Ne.symm hx)])]; rfl
  · intro h; exact absurd (Finset.mem_univ _) h

/-- Whether row `i` of the first box set suppresses column `j` of the second. -/
def Sup {n k : ℕ} (A : (⟨2, ![n, 4]⟩ : Shape).Idx → EReal) (B1 B2 B3 B4 B9 : (⟨2, ![1, k]⟩ : Shape).Idx → EReal) (i : Fin n) (j : Fin k) : Prop :=
  thr < iou (A (ix2 i 0)) (A (ix2 i 1)) (A (ix2 i 2)) (A (ix2 i 3)) (area (A (ix2 i 0)) (A (ix2 i 1)) (A (ix2 i 2)) (A (ix2 i 3)))
    (B1 (ix2 0 j)) (B2 (ix2 0 j)) (B3 (ix2 0 j)) (B4 (ix2 0 j)) (B9 (ix2 0 j))

/-- The block's overlap table at a pair. -/
theorem over_at (A : FVec Ideal S128x4 .f32) (B1 B2 B3 B4 B9 : FVec Ideal S1x128 .f32) (i j : Fin 128) :
    (k1_pay24 (F := Ideal) (k1_pay16 A) (k1_pay17 A B1 B2 B3 B4) B9 (ix2 i j) : EReal) = bit (Sup A B1 B2 B3 B4 B9 i j ∧ i.val < j.val) := by
  pointwise [k1_pay24, k1_pay16, k1_pay17, k1_pay12, k1_pay13, k1_pay14, k1_pay15, k1_pay11]
  rw [select_eq, cmp_lt]
  simp only [andi_one, WordCmp.ofBool_decide_eq_one_iff]
  exact ite_bit _

/-- One inner block: a later column goes out if a survivor of the block suppresses it. -/
theorem pay28_at (p q : BitVec 32) (g : FVec Ideal S1x512 .f32) (a : IVec S128x512 1) (b : IVec S128x1 1) (j : Fin 512) :
    (k1_pay28 (F := Ideal) p q g a b (ix2 0 j) : EReal) = open Classical in
      if (∃ i : Fin 128, a (ix2 i j) = 1#1 ∧ b (ix2 i 0) = 1#1) ∧ IntOp.cmpi .sge (q + BitVec.ofNat 32 j.val) (p + 128#32) = 1#1 then 0 else g (ix2 0 j) := by
  pointwise [k1_pay28]
  rw [select_eq]
  refine if_congr ?_ rfl rfl
  rw [andi_one, WordCmp.ofBool_decide_eq_one_iff, Finset.lt_fold_max]
  refine and_congr ?_ Iff.rfl
  simp only [select_eq, andi_one]
  constructor
  · rintro (h | ⟨i, -, h⟩)
    · exact absurd (lt_of_le_of_lt half_pos h) bot_le
    · by_contra hc
      rw [if_neg fun hi => hc ⟨i, hi⟩] at h
      exact absurd h (not_lt.mpr half_pos)
  · rintro ⟨i, hi⟩
    exact Or.inr ⟨i, Finset.mem_univ _, by rw [if_pos hi]; exact half_lt⟩

/-- The overlap test of the inner block at a pair. -/
theorem pay7_at (A : FVec Ideal S128x4 .f32) (B1 B2 B3 B4 B9 : FVec Ideal S1x512 .f32) (i : Fin 128) (j : Fin 512) :
    k1_pay7 (F := Ideal) (k1_pay12 A) (k1_pay13 A) (k1_pay14 A) (k1_pay15 A) (k1_pay16 A) B1 B2 B3 B4 B9 (ix2 i j) = 1#1 ↔ Sup A B1 B2 B3 B4 B9 i j := by
  pointwise [k1_pay7, k1_pay16, k1_pay12, k1_pay13, k1_pay14, k1_pay15, k1_pay11]
  exact WordCmp.ofBool_decide_eq_one_iff _

/-- The survivor test. -/
theorem pay8_at (a : FVec Ideal S128x1 .f32) (i : Fin 128) : k1_pay8 a (ix2 i 0) = 1#1 ↔ half < (a (ix2 i 0) : EReal) := by
  pointwise [k1_pay8]
  exact WordCmp.ofBool_decide_eq_one_iff _

end Cert.Proof.KI

end
-- ==== Proof.KIEnds.lean ====
module

public import proofs.«01_k».proof.Proof.KIPt
public import proofs.«01_k».proof.Proof.KINms

@[expose] public section

set_option maxRecDepth 16384
set_option maxHeartbeats 4000000

noncomputable section

/-! The suppression loop ends, whatever the boxes, and what it ends with is fixed by one more round. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One round reads a column only through the rows before it. -/
theorem pay5_congr (O : FVec Ideal S128x128 .f32) (v a a' : FVec Ideal S1x128 .f32)
    (hO : ∀ i j : Fin 128, ¬ i.val < j.val → (O (ix2 i j) : EReal) = 0) (j : Fin 128)
    (h : ∀ x : Fin 128, x.val < j.val → (a (ix2 0 x) : EReal) = a' (ix2 0 x)) :
    (k1_pay5 O v a (ix2 0 j) : EReal) = k1_pay5 O v a' (ix2 0 j) := by
  rw [pay5_at, pay5_at]
  have e : ∑ x : Fin 128, (a (ix2 0 x) : EReal) * O (ix2 x j) = ∑ x : Fin 128, (a' (ix2 0 x) : EReal) * O (ix2 x j) :=
    Finset.sum_congr rfl fun x _ => by
      by_cases hx : x.val < j.val
      · rw [h x hx]
      · rw [hO x j hx, mul_zero, mul_zero]
  rw [e]

/-- After `t` rounds the first `t` columns stay. -/
theorem stays (O : FVec Ideal S128x128 .f32) (v : FVec Ideal S1x128 .f32)
    (hO : ∀ i j : Fin 128, ¬ i.val < j.val → (O (ix2 i j) : EReal) = 0) :
    ∀ (t : ℕ) (j : Fin 128), j.val < t → (k1_pay5 O v ((k1_pay5 O v)^[t] v) (ix2 0 j) : EReal) = (k1_pay5 O v)^[t] v (ix2 0 j)
  | 0, j, h => absurd h (Nat.not_lt_zero _)
  | t + 1, j, h => by
    rw [Function.iterate_succ_apply']
    exact pay5_congr O v _ _ hO j fun x hx => stays O v hO t x (by omega)

/-- The loop ends from any of the rows it passes. -/
theorem ends_from (O : FVec Ideal S128x128 .f32) (v : FVec Ideal S1x128 .f32)
    (hO : ∀ i j : Fin 128, ¬ i.val < j.val → (O (ix2 i j) : EReal) = 0) :
    ∀ (d t : ℕ), t + d = 128 → ∀ b, ∃ r, ∃ n, RunsIn O v n ((k1_pay5 O v)^[t] v) b r
  | 0, t, h, b => by
    by_cases hb : b = 1#1
    · have e : k1_pay5 O v ((k1_pay5 O v)^[t] v) = (k1_pay5 O v)^[t] v := row_ext _ _ fun j => stays O v hO t j (by have := j.isLt; omega)
      exact ⟨_, 1, hb, (flag_iff O v _).mpr e, rfl⟩
    · exact ⟨_, 0, hb, rfl⟩
  | d + 1, t, h, b => by
    by_cases hb : b = 1#1
    · obtain ⟨r, n, hr⟩ := ends_from O v hO d (t + 1) (by omega) (Scalar.cmpf .ogt (k1_pay6 O v ((k1_pay5 O v)^[t] v)) (Scalar.ofBits (F := Ideal) .f32 0x00000000#32))
      rw [Function.iterate_succ_apply'] at hr
      exact ⟨r, n + 1, hb, hr⟩
    · exact ⟨_, 0, hb, rfl⟩

/-- The block's overlap table holds nothing on or under the diagonal. -/
theorem over_zero (A0 : Tab Ideal) (A1 A2 A3 A4 A9 : Row Ideal) (k : Fin k1_t1_loop.trips) (i j : Fin 128) (h : ¬ i.val < j.val) :
    (over A0 A1 A2 A3 A4 A9 k (ix2 i j) : EReal) = 0 := by
  unfold over
  rw [over_at]
  exact bit_zero fun hh => h hh.2

/-- The suppression loop of every trip ends. -/
theorem allEnd (A0 : Tab Ideal) (A1 A2 A3 A4 A6 : Row Ideal) : AllEnd A0 A1 A2 A3 A4 A6 := fun k =>
  ends_from _ _ (over_zero A0 A1 A2 A3 A4 _ k) 128 0 rfl 1#1

/-- What the loop ends with is left alone by one more round. -/
theorem runs_fixed (O : FVec Ideal S128x128 .f32) (v : FVec Ideal S1x128 .f32) :
    ∀ (n : ℕ) (a : FVec Ideal S1x128 .f32) (b : BitVec 1) (r : FVec Ideal S1x128 .f32), RunsIn O v n a b r →
      (b ≠ 1#1 → k1_pay5 O v a = a) → k1_pay5 O v r = r
  | 0, a, b, r, h, hb => by rw [h.2]; exact hb h.1
  | n + 1, a, b, r, h, hb => runs_fixed O v n _ _ r h.2 fun hf => by rw [(flag_iff O v a).mp hf, (flag_iff O v a).mp hf]

/-- So what it ends with satisfies the round's equation. -/
theorem res_fixed (O : FVec Ideal S128x128 .f32) (v : FVec Ideal S1x128 .f32) (h : Ends O v) : k1_pay5 O v (res O v) = res O v := by
  obtain ⟨n, hn⟩ := res_spec h
  exact runs_fixed O v n v 1#1 _ hn fun hb => absurd rfl hb

end Cert.Proof.KI

end
-- ==== Proof.RIFrame.lean ====
module

public import proofs.«01_k».proof.Proof.Gen.ReferenceIdeal.Run
public import Idealize.ShloMosaic.Lib.Quiescent

@[expose] public section

set_option maxRecDepth 16384
set_option maxHeartbeats 4000000

noncomputable section

/-! The reference ends with its arguments unchanged and, declaring no semaphore, with every counter at zero. -/

namespace Cert.Proof.RI

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- Every operation of the stretches leaves the reference alone. -/
def Spares (r : Ref sig .tc) (items : List (List (HloOp τ sig (Elt F)))) : Prop :=
  ∀ ops ∈ items, ∀ V : Valuation τ sig (Elt F), after ops V (Proc.devRef .tc r) = V (Proc.devRef .tc r)

theorem spares_nil (r : Ref sig .tc) : Spares (F := F) r [] := fun _ h => nomatch h

theorem spares_cons {r : Ref sig .tc} {ops : List (HloOp τ sig (Elt F))} {items : List (List (HloOp τ sig (Elt F)))} {W : List (Ref sig .tc)}
    (hW : ops.Forall fun op => op.writes ⊆ (W.map (Proc.devRef (τ := τ) .tc)).toFinset) (hr : r ∉ W) (h : Spares r items) : Spares r (ops :: items) := by
  intro o ho V
  rcases List.mem_cons.mp ho with rfl | ho
  · exact after_of_writes_sub _ V hW hr
  · exact h o ho V

theorem afterL_spares {r : Ref sig .tc} : ∀ {items : List (List (HloOp τ sig (Elt F)))} (h : Spares r items) (V : Valuation τ sig (Elt F)),
    afterL items V (Proc.devRef .tc r) = V (Proc.devRef .tc r)
  | [], _, _ => rfl
  | ops :: rest, h, V => by
    rw [afterL_cons, afterL_spares (fun o ho => h o (List.mem_cons_of_mem _ ho)), h ops List.mem_cons_self]
/-- The reference each operation of stretch 25 writes. -/
abbrev W25 : List (Ref sig .tc) := [main_c_25, main_v99, main_c_26, main_v100, main_v101, main_c_27, main_v102, main_v103, main_v104, main_v105, main_v106, main_v107, main_cst_28, main_cst_29]
theorem writes25 : (hostOps0_25 : List (HloOp τ sig (Elt F))).Forall fun op => op.writes ⊆ (W25.map (Proc.devRef (τ := τ) .tc)).toFinset :=
  StableHlo.forall_writes_sub_of_map rfl
/-- The reference each operation of stretch 26 writes. -/
abbrev W26 : List (Ref sig .tc) := [main_call13_v0, main_call13_v1, main_call13_v2, main_call13_v3, main_call13_v4, main_v108]
theorem writes26 : (hostOps0_26 : List (HloOp τ sig (Elt F))).Forall fun op => op.writes ⊆ (W26.map (Proc.devRef (τ := τ) .tc)).toFinset :=
  StableHlo.forall_writes_sub_of_map rfl
/-- The reference each operation of stretch 27 writes. -/
abbrev W27 : List (Ref sig .tc) := [main_v109, main_v110, main_v111, main_v112, main_v113, main_v114, main_v115, main_v116, main_v117, main_v118]
theorem writes27 : (hostOps0_27 : List (HloOp τ sig (Elt F))).Forall fun op => op.writes ⊆ (W27.map (Proc.devRef (τ := τ) .tc)).toFinset :=
  StableHlo.forall_writes_sub_of_map rfl

/-- The stretches before the loop, the loop's, and those after it write no reference outside these lists. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W ++ hostOps0_21_W ++ hostOps0_22_W ++ hostOps0_23_W ++ hostOps0_24_W
abbrev bodyW : List (Ref sig .tc) := while0Ops0_W ++ while0Ops0_1_W ++ while0Ops0_2_W
abbrev postW : List (Ref sig .tc) := W25 ++ W26 ++ W27
theorem pre_spares {r : Ref sig .tc} (h : r ∉ preW) : Spares (F := F) r preI := by
  simp only [preW, List.mem_append, not_or] at h
  obtain ⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩ := h
  exact spares_cons hostOps0_writes h0 (spares_cons hostOps0_1_writes h1 (spares_cons hostOps0_2_writes h2 (spares_cons hostOps0_3_writes h3 (spares_cons hostOps0_4_writes h4 (spares_cons hostOps0_5_writes h5 (spares_cons hostOps0_6_writes h6 (spares_cons hostOps0_7_writes h7 (spares_cons hostOps0_8_writes h8 (spares_cons hostOps0_9_writes h9 (spares_cons hostOps0_10_writes h10 (spares_cons hostOps0_11_writes h11 (spares_cons hostOps0_12_writes h12 (spares_cons hostOps0_13_writes h13 (spares_cons hostOps0_14_writes h14 (spares_cons hostOps0_15_writes h15 (spares_cons hostOps0_16_writes h16 (spares_cons hostOps0_17_writes h17 (spares_cons hostOps0_18_writes h18 (spares_cons hostOps0_19_writes h19 (spares_cons hostOps0_20_writes h20 (spares_cons hostOps0_21_writes h21 (spares_cons hostOps0_22_writes h22 (spares_cons hostOps0_23_writes h23 (spares_cons hostOps0_24_writes h24 (spares_nil r)))))))))))))))))))))))))
theorem body_spares {r : Ref sig .tc} (h : r ∉ bodyW) : Spares (F := F) r bodyI := by
  simp only [bodyW, List.mem_append, not_or] at h
  obtain ⟨⟨h0, h1⟩, h2⟩ := h
  exact spares_cons while0Ops0_writes h0 (spares_cons while0Ops0_1_writes h1 (spares_cons while0Ops0_2_writes h2 (spares_nil r)))
theorem post_spares {r : Ref sig .tc} (h : r ∉ postW) : Spares (F := F) r postI := by
  simp only [postW, List.mem_append, not_or] at h
  obtain ⟨⟨h0, h1⟩, h2⟩ := h
  exact spares_cons writes25 h0 (spares_cons writes26 h1 (spares_cons writes27 h2 (spares_nil r)))

/-- A reference neither the loop nor its condition writes is, before every trip, as at the loop's entry. -/
theorem atK_spares {r : Ref sig .tc} (m : (ℓ : Loc nD τ sig) → Buf (Elt F) ℓ) (hb : r ∉ bodyW) (hc : r ∉ condOps_W) (c : Dev nD) :
    ∀ k, atK m k c (Proc.devRef .tc r) = entryContents preI m c (Proc.devRef .tc r)
  | 0 => rfl
  | k + 1 => (afterL_spares (body_spares hb) (after condOps (atK m k c))).trans ((after_of_writes_sub _ _ condOps_writes hc).trans (atK_spares m hb hc c k))

/-- An argument ends as it was launched. -/
theorem final_arg {r : Ref sig .tc} (m : (ℓ : Loc nD τ sig) → Buf (Elt F) ℓ) (hp : r ∉ preW) (hb : r ∉ bodyW) (hc : r ∉ condOps_W) (hq : r ∉ postW) (c : Dev nD) :
    finalContents condOps preI bodyI postI 15000 m c (Proc.devRef .tc r) = m ((c.tc : Thread nD τ).loc r) :=
  (afterL_spares (post_spares hq) _).trans ((after_of_writes_sub _ _ condOps_writes hc).trans
    ((atK_spares m hb hc c 15000).trans (afterL_spares (pre_spares hp) _)))

/-- The reference terminates with its arguments unchanged, its result the last stretch's, and every counter at zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v118) = finalContents condOps preI bodyI postI 15000 m c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => ⟨h c main_v118 (by decide),
    (h c main_arg0 (by decide)).trans (final_arg m (by decide) (by decide) (by decide) (by decide) c),
    (h c main_arg1 (by decide)).trans (final_arg m (by decide) (by decide) (by decide) (by decide) c),
    (h c main_arg2 (by decide)).trans (final_arg m (by decide) (by decide) (by decide) (by decide) c)⟩,
    sem_eq_zero_of_no_sems (by decide) r.2⟩) (run_fold m ρ)

end Cert.Proof.RI

end
-- ==== Proof.KIGreedy.lean ====
module

public import proofs.«01_k».proof.Proof.KIPt
public import Idealize.ShloMosaic.Lib.Pipeline.ValueKit.Geometry

@[expose] public section

set_option maxRecDepth 16384
set_option maxHeartbeats 4000000

noncomputable section

/-! Greedy selection, and where the blocks of one trip lie. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Greedy selection: an item is kept if it is valid and no earlier kept item suppresses it. -/
def Keep {n : ℕ} (v : Fin n → Prop) (S : Fin n → Fin n → Prop) (j : Fin n) : Prop :=
  v j ∧ ∀ i : Fin n, (h : i < j) → Keep v S i → ¬ S i j
termination_by j.val
decreasing_by exact h

/-- An item is valid and no kept item among the first `b` suppresses it. -/
def Upto {n : ℕ} (v : Fin n → Prop) (S : Fin n → Fin n → Prop) (b : ℕ) (j : Fin n) : Prop :=
  v j ∧ ∀ i : Fin n, i < j → i.val < b → Keep v S i → ¬ S i j

variable {n : ℕ} {v : Fin n → Prop} {S : Fin n → Fin n → Prop}

theorem keep_iff (j : Fin n) : Keep v S j ↔ v j ∧ ∀ i : Fin n, i < j → Keep v S i → ¬ S i j := by
  rw [Keep]

theorem upto_zero (j : Fin n) : Upto v S 0 j ↔ v j :=
  ⟨fun h => h.1, fun h => ⟨h, fun _ _ h0 => absurd h0 (Nat.not_lt_zero _)⟩⟩

theorem upto_keep {b : ℕ} (j : Fin n) (h : j.val ≤ b) : Upto v S b j ↔ Keep v S j := by
  rw [keep_iff]
  exact ⟨fun hu => ⟨hu.1, fun i hi => hu.2 i hi (lt_of_lt_of_le (show i.val < j.val from hi) h)⟩, fun hk => ⟨hk.1, fun i hi _ => hk.2 i hi⟩⟩

theorem upto_add (b d : ℕ) (j : Fin n) : Upto v S (b + d) j ↔ Upto v S b j ∧ ∀ i : Fin n, i < j → b ≤ i.val → i.val < b + d → Keep v S i → ¬ S i j := by
  constructor
  · rintro ⟨h1, h2⟩
    exact ⟨⟨h1, fun i hi hb => h2 i hi (by omega)⟩, fun i hi _ hb => h2 i hi hb⟩
  · rintro ⟨⟨h1, h2⟩, h3⟩
    refine ⟨h1, fun i hi hb => ?_⟩
    by_cases h : i.val < b
    · exact h2 i hi h
    · exact h3 i hi (by omega) hb

/-- Greedy selection is the only selection with its property, along any well-founded order. -/
theorem greedy_unique {α : Type} (r : α → α → Prop) (hr : WellFounded r) (w : α → Prop) (T : α → α → Prop) (p q : α → Prop)
    (hp : ∀ j, p j ↔ w j ∧ ∀ i, r i j → p i → ¬ T i j) (hq : ∀ j, q j ↔ w j ∧ ∀ i, r i j → q i → ¬ T i j) : ∀ j, p j ↔ q j := fun j => by
  induction j using hr.induction with
  | _ j ih =>
    rw [hp, hq]
    exact and_congr_right fun _ => forall_congr' fun i => forall_congr' fun hi => by rw [ih i hi]

/-! ## Where the blocks lie -/

theorem t1_trips : k1_t1_loop.trips = 120 := by decide
theorem off1_eq : ∀ k : Fin k1_t1_loop.trips, k1_off1 k = ![128 * k.val, 0] := by decide +kernel
theorem off2_eq : ∀ k : Fin k1_t1_loop.trips, k1_off2 k = ![0, 128 * k.val] := by decide +kernel
theorem off3_eq : ∀ (k : Fin k1_t1_loop.trips) (j : Fin (k1_t2_loop k).trips), k1_off3 k j = ![0, 512 * ((k.val + 1) / 4 + j.val)] := by decide +kernel
theorem t2_trips : ∀ k : Fin k1_t1_loop.trips, (k1_t2_loop k).trips = 30 - (k.val + 1) / 4 := by decide +kernel
theorem base_eq : ∀ k : Fin k1_t1_loop.trips, base k = BitVec.ofNat 32 (128 * k.val) := by decide +kernel
theorem col_eq : ∀ (k : Fin k1_t1_loop.trips) (j : Fin (k1_t2_loop k).trips),
    Scalar.muli (Scf.iv (col0 k) 1#32 j) 512#32 = BitVec.ofNat 32 (512 * ((k.val + 1) / 4 + j.val)) := by decide +kernel

theorem k_lt (k : Fin k1_t1_loop.trips) : k.val < 120 := lt_of_lt_of_eq k.isLt t1_trips
theorem j_lt {k : Fin k1_t1_loop.trips} (j : Fin (k1_t2_loop k).trips) : (k.val + 1) / 4 + j.val < 30 := by
  have := lt_of_lt_of_eq j.isLt (t2_trips k)
  omega

/-- The item at place `x` of the block of trip `k`, -/
def blk (k : Fin k1_t1_loop.trips) (x : Fin 128) : Fin 15360 := ⟨128 * k.val + x.val, by have := k_lt k; omega⟩
/-- and at place `x` of inner block `j`. -/
def cblk (k : Fin k1_t1_loop.trips) (j : Fin (k1_t2_loop k).trips) (x : Fin 512) : Fin 15360 :=
  ⟨512 * ((k.val + 1) / 4 + j.val) + x.val, by have := j_lt j; omega⟩

theorem R1_emb (k : Fin k1_t1_loop.trips) (i : Fin 128) (d : Fin 4) : (R1 k).emb (ix2 i d) = ix2 (blk k i) d := by
  funext a
  refine Fin.ext ?_
  rw [ValueKit.rect_emb_unit_val]
  refine (congrArg (· + _) (congrFun (off1_eq k) a)).trans ?_
  match a with
  | ⟨0, _⟩ => rfl
  | ⟨1, _⟩ => exact Nat.zero_add _
theorem R2_emb (k : Fin k1_t1_loop.trips) (x : Fin 128) : (R2 k).emb (ix2 0 x) = ix2 0 (blk k x) := by
  funext a
  refine Fin.ext ?_
  rw [ValueKit.rect_emb_unit_val]
  refine (congrArg (· + _) (congrFun (off2_eq k) a)).trans ?_
  match a with
  | ⟨0, _⟩ => rfl
  | ⟨1, _⟩ => rfl
theorem R3_emb (k : Fin k1_t1_loop.trips) (j : Fin (k1_t2_loop k).trips) (x : Fin 512) : (R3 k j).emb (ix2 0 x) = ix2 0 (cblk k j x) := by
  funext a
  refine Fin.ext ?_
  rw [ValueKit.rect_emb_unit_val]
  refine (congrArg (· + _) (congrFun (off3_eq k j) a)).trans ?_
  match a with
  | ⟨0, _⟩ => rfl
  | ⟨1, _⟩ => rfl

theorem cut_R1 {α : Type} (k : Fin k1_t1_loop.trips) (A : S15360x4.Idx → α) (i : Fin 128) (d : Fin 4) : cut (R1 k) A (ix2 i d) = A (ix2 (blk k i) d) :=
  congrArg A (R1_emb k i d)
theorem cut_R2 {α : Type} (k : Fin k1_t1_loop.trips) (A : S1x15360.Idx → α) (x : Fin 128) : cut (R2 k) A (ix2 0 x) = A (ix2 0 (blk k x)) :=
  congrArg A (R2_emb k x)
theorem cut_R3 {α : Type} (k : Fin k1_t1_loop.trips) (j : Fin (k1_t2_loop k).trips) (A : S1x15360.Idx → α) (x : Fin 512) :
    cut (R3 k j) A (ix2 0 x) = A (ix2 0 (cblk k j x)) := congrArg A (R3_emb k j x)

/-- An item of the block of trip `k` is at one of its places. -/
theorem blk_of (k : Fin k1_t1_loop.trips) (J : Fin 15360) (h1 : 128 * k.val ≤ J.val) (h2 : J.val < 128 * k.val + 128) : ∃ x, blk k x = J :=
  ⟨⟨J.val - 128 * k.val, by omega⟩, Fin.ext (by show 128 * k.val + (J.val - 128 * k.val) = J.val; omega)⟩
theorem cblk_of (k : Fin k1_t1_loop.trips) (j : Fin (k1_t2_loop k).trips) (J : Fin 15360) (h1 : 512 * ((k.val + 1) / 4 + j.val) ≤ J.val)
    (h2 : J.val < 512 * ((k.val + 1) / 4 + j.val) + 512) : ∃ x, cblk k j x = J :=
  ⟨⟨J.val - 512 * ((k.val + 1) / 4 + j.val), by omega⟩, Fin.ext (by show 512 * ((k.val + 1) / 4 + j.val) + (J.val - 512 * ((k.val + 1) / 4 + j.val)) = J.val; omega)⟩

/-- A row with the block of trip `k` replaced: in the block, -/
theorem put_R2_in {α : Type} (k : Fin k1_t1_loop.trips) (w : S1x128.Idx → α) (g : S1x15360.Idx → α) (x : Fin 128) :
    put (R2 k) w g (ix2 0 (blk k x)) = w (ix2 0 x) := by rw [← R2_emb]; exact put_emb _ _ _ _
/-- and outside it. -/
theorem put_R2_out {α : Type} (k : Fin k1_t1_loop.trips) (w : S1x128.Idx → α) (g : S1x15360.Idx → α) (J : Fin 15360)
    (h : J.val < 128 * k.val ∨ 128 * k.val + 128 ≤ J.val) : put (R2 k) w g (ix2 0 J) = g (ix2 0 J) := by
  refine put_of_not _ _ _ _ fun x hx => ?_
  have h1 := congrArg Fin.val (congrFun hx 1)
  rw [ValueKit.rect_emb_unit_val] at h1
  have h2 : (x 1).val < 128 := (x 1).isLt
  have h3 : k1_off2 k 1 + (x 1).val = J.val := h1
  have h4 : k1_off2 k 1 = 128 * k.val := congrFun (off2_eq k) 1
  omega
theorem put_R3_in {α : Type} (k : Fin k1_t1_loop.trips) (j : Fin (k1_t2_loop k).trips) (w : S1x512.Idx → α) (g : S1x15360.Idx → α) (x : Fin 512) :
    put (R3 k j) w g (ix2 0 (cblk k j x)) = w (ix2 0 x) := by rw [← R3_emb]; exact put_emb _ _ _ _
theorem put_R3_out {α : Type} (k : Fin k1_t1_loop.trips) (j : Fin (k1_t2_loop k).trips) (w : S1x512.Idx → α) (g : S1x15360.Idx → α) (J : Fin 15360)
    (h : J.val < 512 * ((k.val + 1) / 4 + j.val) ∨ 512 * ((k.val + 1) / 4 + j.val) + 512 ≤ J.val) : put (R3 k j) w g (ix2 0 J) = g (ix2 0 J) := by
  refine put_of_not _ _ _ _ fun x hx => ?_
  have h1 := congrArg Fin.val (congrFun hx 1)
  rw [ValueKit.rect_emb_unit_val] at h1
  have h2 : (x 1).val < 512 := (x 1).isLt
  have h3 : k1_off3 k j 1 + (x 1).val = J.val := h1
  have h4 : k1_off3 k j 1 = 512 * ((k.val + 1) / 4 + j.val) := congrFun (off3_eq k j) 1
  omega

/-- The test that a column of an inner block comes after the block. -/
theorem later_iff (k : Fin k1_t1_loop.trips) (j : Fin (k1_t2_loop k).trips) (x : Fin 512) :
    IntOp.cmpi .sge (Scalar.muli (Scf.iv (col0 k) 1#32 j) 512#32 + BitVec.ofNat 32 x.val) (base k + 128#32) = 1#1 ↔ 128 * k.val + 128 ≤ (cblk k j x).val := by
  have h1 := k_lt k
  have h2 := j_lt j
  have h3 := x.isLt
  rw [col_eq, base_eq, BitVec.ofNat_add_ofNat, show (128#32 : BitVec 32) = BitVec.ofNat 32 128 from rfl, BitVec.ofNat_add_ofNat,
    WordCmp.cmpi_sge_ofNat (by omega) (by omega), WordCmp.ofBool_decide_eq_one_iff]
  rfl

end Cert.Proof.KI

end
-- ==== Proof.KIKeep.lean ====
module

public import proofs.«01_k».proof.Proof.KIGreedy
public import proofs.«01_k».proof.Proof.KIEnds

@[expose] public section

set_option maxRecDepth 16384
set_option maxHeartbeats 4000000

noncomputable section

/-! The suppression kernel's scratch row holds the greedy selection. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (A0 : Tab Ideal) (A1 A2 A3 A4 A9 : Row Ideal) (v : Fin 15360 → Prop)

/-- Whether the first item's box, from the table, suppresses the second's, from the rows. -/
abbrev SS (i j : Fin 15360) : Prop := Sup A0 A1 A2 A3 A4 A9 i j

theorem sup_R2 (k : Fin k1_t1_loop.trips) (i j : Fin 128) :
    Sup (cut (R1 k) A0) (cut (R2 k) A1) (cut (R2 k) A2) (cut (R2 k) A3) (cut (R2 k) A4) (cut (R2 k) A9) i j ↔ SS A0 A1 A2 A3 A4 A9 (blk k i) (blk k j) := by
  unfold SS Sup
  rw [cut_R1, cut_R1, cut_R1, cut_R1, cut_R2, cut_R2, cut_R2, cut_R2, cut_R2]
theorem sup_R3 (k : Fin k1_t1_loop.trips) (t : Fin (k1_t2_loop k).trips) (i : Fin 128) (j : Fin 512) :
    Sup (cut (R1 k) A0) (cut (R3 k t) A1) (cut (R3 k t) A2) (cut (R3 k t) A3) (cut (R3 k t) A4) (cut (R3 k t) A9) i j ↔ SS A0 A1 A2 A3 A4 A9 (blk k i) (cblk k t j) := by
  unfold SS Sup
  rw [cut_R1, cut_R1, cut_R1, cut_R1, cut_R3, cut_R3, cut_R3, cut_R3, cut_R3]

theorem over_blk (k : Fin k1_t1_loop.trips) (i j : Fin 128) :
    (over A0 A1 A2 A3 A4 A9 k (ix2 i j) : EReal) = bit (SS A0 A1 A2 A3 A4 A9 (blk k i) (blk k j) ∧ i.val < j.val) := by
  unfold over
  rw [over_at]
  exact bit_congr (and_congr_left' (sup_R2 A0 A1 A2 A3 A4 A9 k i j))

/-- The block's survivors, from a row that accounts for the items before the block. -/
theorem block_res (k : Fin k1_t1_loop.trips) (g : Row Ideal) (hg : ∀ J, (g (ix2 0 J) : EReal) = bit (Upto v (SS A0 A1 A2 A3 A4 A9) (128 * k.val) J)) :
    ∀ j : Fin 128, (resK A0 A1 A2 A3 A4 A9 k g (ix2 0 j) : EReal) = bit (Keep v (SS A0 A1 A2 A3 A4 A9) (blk k j)) := by
  have hf := res_fixed (over A0 A1 A2 A3 A4 A9 k) (cut (R2 k) g) (ends_from _ _ (over_zero A0 A1 A2 A3 A4 A9 k) 128 0 rfl 1#1)
  have key : ∀ (m : ℕ) (j : Fin 128), j.val = m → (resK A0 A1 A2 A3 A4 A9 k g (ix2 0 j) : EReal) = bit (Keep v (SS A0 A1 A2 A3 A4 A9) (blk k j)) := by
    intro m
    induction m using Nat.strong_induction_on with
    | _ m ih =>
      intro j hj
      have e := congrFun hf (ix2 0 j)
      rw [pay5_at] at e
      have es : ∑ x : Fin 128, (res (over A0 A1 A2 A3 A4 A9 k) (cut (R2 k) g) (ix2 0 x) : EReal) * over A0 A1 A2 A3 A4 A9 k (ix2 x j)
          = ∑ x : Fin 128, bit (Keep v (SS A0 A1 A2 A3 A4 A9) (blk k x)) * bit (SS A0 A1 A2 A3 A4 A9 (blk k x) (blk k j) ∧ x.val < j.val) :=
        Finset.sum_congr rfl fun x _ => by
          rw [over_blk]
          by_cases hx : x.val < j.val
          · rw [show (res (over A0 A1 A2 A3 A4 A9 k) (cut (R2 k) g) (ix2 0 x) : EReal) = bit (Keep v (SS A0 A1 A2 A3 A4 A9) (blk k x)) from ih x.val (hj ▸ hx) x rfl]
          · rw [bit_zero fun h => hx h.2, mul_zero, mul_zero]
      rw [es] at e
      refine Eq.trans e.symm ?_
      have hs := half_lt_sum (fun x => Keep v (SS A0 A1 A2 A3 A4 A9) (blk k x)) (fun x => SS A0 A1 A2 A3 A4 A9 (blk k x) (blk k j) ∧ x.val < j.val)
      rw [cut_R2, hg]
      by_cases h : ∃ x, Keep v (SS A0 A1 A2 A3 A4 A9) (blk k x) ∧ (SS A0 A1 A2 A3 A4 A9 (blk k x) (blk k j) ∧ x.val < j.val)
      · refine (if_pos (hs.mpr h)).trans ?_
        obtain ⟨x, hx, hs, hl⟩ := h
        exact (bit_zero fun hk => ((keep_iff _).mp hk).2 (blk k x) (show 128 * k.val + x.val < 128 * k.val + j.val by omega) hx hs).symm
      · refine (if_neg fun h' => h (hs.mp h')).trans ?_
        refine bit_congr ?_
        rw [keep_iff]
        constructor
        · rintro ⟨h1, h2⟩
          refine ⟨h1, fun i hi hk hs => ?_⟩
          by_cases hb : i.val < 128 * k.val
          · exact h2 i hi hb hk hs
          · have hi' : i.val < 128 * k.val + j.val := hi
            obtain ⟨x, rfl⟩ := blk_of k i (by omega) (by omega)
            have hx : 128 * k.val + x.val < 128 * k.val + j.val := hi
            exact h ⟨x, hk, hs, by omega⟩
        · rintro ⟨h1, h2⟩
          exact ⟨h1, fun i hi _ => h2 i hi⟩
  exact fun j => key j.val j rfl

/-- The later columns after `n` inner blocks. -/
theorem col_inv (k : Fin k1_t1_loop.trips) (r : FVec Ideal S1x128 .f32) (g : Row Ideal) (p : Fin 128 → Prop) (q : Fin 15360 → Prop)
    (hr : ∀ j : Fin 128, (r (ix2 0 j) : EReal) = bit (p j)) (hg : ∀ J : Fin 15360, (g (ix2 0 J) : EReal) = bit (q J)) :
    ∀ (n : ℕ) (hn : n ≤ (k1_t2_loop k).trips) (J : Fin 15360), (colN A0 A1 A2 A3 A4 A9 k r g n (ix2 0 J) : EReal)
      = bit (q J ∧ ¬ ((128 * k.val + 128 ≤ J.val ∧ J.val < 512 * ((k.val + 1) / 4 + n)) ∧ ∃ i : Fin 128, p i ∧ SS A0 A1 A2 A3 A4 A9 (blk k i) J))
  | 0, hn, J => by
    rw [show colN A0 A1 A2 A3 A4 A9 k r g 0 = g from rfl, hg]
    exact bit_congr ⟨fun h => ⟨h, fun h' => by omega⟩, fun h => h.1⟩
  | n + 1, hn, J => by
    have hlt : n < (k1_t2_loop k).trips := by omega
    have ih := col_inv k r g p q hr hg n (by omega)
    rw [colN, dif_pos hlt]
    unfold colStep
    by_cases hJ : 512 * ((k.val + 1) / 4 + n) ≤ J.val ∧ J.val < 512 * ((k.val + 1) / 4 + n) + 512
    · obtain ⟨x, rfl⟩ := cblk_of k ⟨n, hlt⟩ J hJ.1 hJ.2
      rw [put_R3_in, pay28_at, cut_R3, ih]
      have hc : ((∃ i : Fin 128, k1_pay7 (k1_pay12 (cut (R1 k) A0)) (k1_pay13 (cut (R1 k) A0)) (k1_pay14 (cut (R1 k) A0)) (k1_pay15 (cut (R1 k) A0))
          (k1_pay16 (cut (R1 k) A0)) (cut (R3 k ⟨n, hlt⟩) A1) (cut (R3 k ⟨n, hlt⟩) A2) (cut (R3 k ⟨n, hlt⟩) A3) (cut (R3 k ⟨n, hlt⟩) A4)
          (cut (R3 k ⟨n, hlt⟩) A9) (ix2 i x) = 1#1 ∧ k1_pay8 (k1_pay26 r) (ix2 i 0) = 1#1)
          ∧ IntOp.cmpi .sge (Scalar.muli (Scf.iv (col0 k) 1#32 n) 512#32 + BitVec.ofNat 32 x.val) (base k + 128#32) = 1#1)
          ↔ (∃ i : Fin 128, SS A0 A1 A2 A3 A4 A9 (blk k i) (cblk k ⟨n, hlt⟩ x) ∧ p i) ∧ 128 * k.val + 128 ≤ (cblk k ⟨n, hlt⟩ x).val :=
        and_congr (exists_congr fun i => and_congr ((pay7_at _ _ _ _ _ _ _ _).trans (sup_R3 A0 A1 A2 A3 A4 A9 k ⟨n, hlt⟩ i x))
          ((pay8_at _ _).trans (by rw [pay26_at, hr, half_lt_bit]))) (later_iff k ⟨n, hlt⟩ x)
      by_cases h : (∃ i : Fin 128, SS A0 A1 A2 A3 A4 A9 (blk k i) (cblk k ⟨n, hlt⟩ x) ∧ p i) ∧ 128 * k.val + 128 ≤ (cblk k ⟨n, hlt⟩ x).val
      · refine (if_pos (hc.mpr h)).trans ?_
        refine (bit_zero fun h' => h'.2 ⟨⟨h.2, by omega⟩, ?_⟩).symm
        obtain ⟨i, hs, hp⟩ := h.1
        exact ⟨i, hp, hs⟩
      · refine (if_neg fun h' => h (hc.mp h')).trans ?_
        refine bit_congr (and_congr_right fun _ => ?_)
        constructor
        · rintro - ⟨⟨h1, h2⟩, i, hp, hs⟩
          exact h ⟨⟨i, hs, hp⟩, h1⟩
        · rintro - ⟨⟨h1, h2⟩, -⟩
          have h4 : n = (⟨n, hlt⟩ : Fin (k1_t2_loop k).trips).val := rfl
          omega
    · rw [put_R3_out _ _ _ _ _ (show J.val < 512 * ((k.val + 1) / 4 + n) ∨ 512 * ((k.val + 1) / 4 + n) + 512 ≤ J.val by omega), ih]
      refine bit_congr (and_congr_right fun _ => not_congr (and_congr_left' (and_congr_right fun _ => ?_)))
      omega

/-- One trip accounts for the items of its block. -/
theorem trip_upto (k : Fin k1_t1_loop.trips) (g : Row Ideal) (hg : ∀ J, (g (ix2 0 J) : EReal) = bit (Upto v (SS A0 A1 A2 A3 A4 A9) (128 * k.val) J)) (J : Fin 15360) :
    (tripOf A0 A1 A2 A3 A4 A9 k (resK A0 A1 A2 A3 A4 A9 k g) g (ix2 0 J) : EReal) = bit (Upto v (SS A0 A1 A2 A3 A4 A9) (128 * k.val + 128) J) := by
  have hr := block_res A0 A1 A2 A3 A4 A9 v k g hg
  have hput : ∀ J : Fin 15360, (put (R2 k) (k1_pay25 (resK A0 A1 A2 A3 A4 A9 k g)) g (ix2 0 J) : EReal)
      = bit (if J.val < 128 * k.val + 128 then Keep v (SS A0 A1 A2 A3 A4 A9) J else Upto v (SS A0 A1 A2 A3 A4 A9) (128 * k.val) J) := by
    intro J
    by_cases h : 128 * k.val ≤ J.val ∧ J.val < 128 * k.val + 128
    · obtain ⟨x, rfl⟩ := blk_of k J h.1 h.2
      rw [put_R2_in, if_pos h.2, ← hr x]
      pointwise [k1_pay25]
    · rw [put_R2_out _ _ _ _ (by omega), hg]
      split_ifs with h'
      · exact bit_congr (upto_keep J (by omega))
      · rfl
  have hstep : ∀ J : Fin 15360, ¬ J.val < 128 * k.val + 128 → (Upto v (SS A0 A1 A2 A3 A4 A9) (128 * k.val + 128) J ↔
      Upto v (SS A0 A1 A2 A3 A4 A9) (128 * k.val) J ∧ ¬ ∃ i : Fin 128, Keep v (SS A0 A1 A2 A3 A4 A9) (blk k i) ∧ SS A0 A1 A2 A3 A4 A9 (blk k i) J) := by
    intro J hJ
    rw [upto_add]
    refine and_congr_right fun _ => ⟨?_, ?_⟩
    · rintro h ⟨i, hk, hs⟩
      have hi := i.isLt
      exact h (blk k i) (show 128 * k.val + i.val < J.val by omega) (show 128 * k.val ≤ 128 * k.val + i.val by omega) (show 128 * k.val + i.val < 128 * k.val + 128 by omega) hk hs
    · intro h i hi h1 h2 hk hs
      obtain ⟨x, rfl⟩ := blk_of k i h1 h2
      exact h ⟨x, hk, hs⟩
  unfold tripOf
  by_cases hs : some1 (resK A0 A1 A2 A3 A4 A9 k g) = 1#1
  · rw [if_pos hs, col_inv A0 A1 A2 A3 A4 A9 k _ _ _ _ hr hput _ le_rfl]
    refine bit_congr ?_
    by_cases hJ : J.val < 128 * k.val + 128
    · rw [if_pos hJ, upto_keep J (by omega)]
      exact ⟨fun h => h.1, fun h => ⟨h, fun h' => by omega⟩⟩
    · rw [if_neg hJ, hstep J hJ]
      refine and_congr_right fun _ => not_congr ⟨fun h => h.2, fun h => ⟨⟨by omega, ?_⟩, h⟩⟩
      have := J.isLt
      have := k_lt k
      rw [t2_trips]
      omega
  · rw [if_neg hs, hput]
    refine bit_congr ?_
    by_cases hJ : J.val < 128 * k.val + 128
    · rw [if_pos hJ, upto_keep J (by omega)]
    · rw [if_neg hJ, hstep J hJ]
      rw [some1_iff _ _ hr] at hs
      exact ⟨fun h => ⟨h, fun ⟨i, hk, _⟩ => hs ⟨i, hk⟩⟩, fun h => h.1⟩

/-- The row before trip `k` accounts for the items of the trips before. -/
theorem rowAt_upto (g : Row Ideal) (hg : ∀ J, (g (ix2 0 J) : EReal) = bit (v J)) :
    ∀ (k : ℕ) (hk : k ≤ 120) (J : Fin 15360), (rowAt A0 A1 A2 A3 A4 A9 g k (ix2 0 J) : EReal) = bit (Upto v (SS A0 A1 A2 A3 A4 A9) (128 * k) J)
  | 0, _, J => (hg J).trans (bit_congr (upto_zero J).symm)
  | k + 1, hk, J => by
    have hlt : k < k1_t1_loop.trips := by rw [t1_trips]; omega
    rw [rowAt_succ A0 A1 A2 A3 A4 A9 g ⟨k, hlt⟩]
    exact trip_upto A0 A1 A2 A3 A4 A9 v ⟨k, hlt⟩ _ (rowAt_upto g hg k (by omega)) J

/-- When its trips are over the kernel's scratch row is the greedy selection. -/
theorem kept_at (A6 : Row Ideal) (h6 : ∀ J, (A6 (ix2 0 J) : EReal) = bit (v J)) (J : Fin 15360) :
    (kept A0 A1 A2 A3 A4 A6 (ix2 0 J) : EReal) = bit (Keep v (SS A0 A1 A2 A3 A4 (k1_pay22 A1 A2 A3 A4)) J) := by
  have e : ∀ J, (k1_pay23 A6 (ix2 0 J) : EReal) = bit (v J) := fun J => by rw [← h6 J]; pointwise [k1_pay23]
  unfold kept
  rw [show k1_t1_loop.trips = 120 from t1_trips, rowAt_upto A0 A1 A2 A3 A4 _ v _ e 120 le_rfl]
  exact bit_congr (upto_keep J (by have := J.isLt; omega))

end Cert.Proof.KI

end
-- ==== Proof.KIItem.lean ====
module

public import proofs.«01_k».proof.Proof.KIKeep
public import proofs.«01_k».proof.Proof.KIRun

@[expose] public section

set_option maxRecDepth 16384
set_option maxHeartbeats 4000000

noncomputable section

/-! What the two kernels' result blocks hold, at an item. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The numbers of the program. -/
abbrev width : EReal := Ideal.ofBits FTy.f32 0x44A6A000#32
abbrev height : EReal := Ideal.ofBits FTy.f32 0x44480000#32
abbrev minArea : EReal := Ideal.ofBits FTy.f32 0x2B8CBCCC#32
abbrev minShare : EReal := Ideal.ofBits FTy.f32 0x3E99999A#32
abbrev minScore : EReal := Ideal.ofBits FTy.f32 0x3D4CCCCD#32
abbrev minusInf : EReal := Ideal.ofBits FTy.f32 0xFF800000#32
abbrev low : EReal := Ideal.ofBits FTy.f32 0x358637BD#32
abbrev high : EReal := Ideal.ofBits FTy.f32 0x3F7FFFEF#32

/-- The share of a box inside the image. -/
def share (x1 y1 x2 y2 : EReal) : EReal :=
  Ideal.div (max (min width x2 - max 0 x1) 0 * max (min height y2 - max 0 y1) 0) (max (area x1 y1 x2 y2) minArea)

/-- A cached box's score. -/
def scoreC (x1 y1 x2 y2 raw : EReal) : EReal := (open Classical in if share x1 y1 x2 y2 < minShare then 0 else share x1 y1 x2 y2) * raw

/-- A proposal's score. -/
def scoreP (raw : EReal) : EReal := Ideal.div 1 (1 + Ideal.exp (-raw))

/-- A score's sorting key. -/
def keyOf (s : EReal) : EReal := -(open Classical in if minScore < s then s else minusInf)

/-- The difference of logarithms of a score, its range narrowed. -/
def logit (s : EReal) : EReal := Ideal.log (min high (max low s)) - Ideal.log1p (-(min high (max low s)))

theorem sitofp_bit (p : Prop) [Decidable p] : (FloatOps.sitofp (F := Ideal) FTy.f32 (BitVec.setWidth 32 (BitVec.ofBool (decide p))) : EReal) = bit p := by
  rw [show (FloatOps.sitofp (F := Ideal) FTy.f32 (BitVec.setWidth 32 (BitVec.ofBool (decide p))) : EReal) = (((BitVec.setWidth 32 (BitVec.ofBool (decide p))).toInt : ℝ) : EReal) from rfl]
  by_cases h : p <;> simp [h, bit]

theorem ite_any {α : Type} (p : Prop) [Decidable p] (a b : α) : (if p then a else b) = open Classical in if p then a else b := by congr

variable (A0 A1 A2 A3 A4 A5 A6 : FVec Ideal S1x15360 .f32)

theorem prep0 (j : Fin 15360) : (prepBlk (F := Ideal) A0 A1 A2 A3 A4 A5 A6 (ix2 0 j) : EReal) =
    open Classical in if (0 : EReal) < A5 (ix2 0 j) then min (max (A0 (ix2 0 j)) 0) width else A0 (ix2 0 j) := by
  show (k0_pay19 (F := Ideal) _ _ (ix2 0 j) : EReal) = _
  pointwise [k0_pay19, k0_pay6, k0_pay11, k0_pay18]
theorem prep1 (j : Fin 15360) : (prepBlk (F := Ideal) A0 A1 A2 A3 A4 A5 A6 (ix2 1 j) : EReal) =
    open Classical in if (0 : EReal) < A5 (ix2 0 j) then min (max (A1 (ix2 0 j)) 0) height else A1 (ix2 0 j) := by
  show (k0_pay20 (F := Ideal) _ _ (ix2 0 j) : EReal) = _
  pointwise [k0_pay20, k0_pay7, k0_pay11, k0_pay18]
theorem prep2 (j : Fin 15360) : (prepBlk (F := Ideal) A0 A1 A2 A3 A4 A5 A6 (ix2 2 j) : EReal) =
    open Classical in if (0 : EReal) < A5 (ix2 0 j) then min (max (A2 (ix2 0 j)) 0) width else A2 (ix2 0 j) := by
  show (k0_pay21 (F := Ideal) _ _ (ix2 0 j) : EReal) = _
  pointwise [k0_pay21, k0_pay8, k0_pay11, k0_pay18]
theorem prep3 (j : Fin 15360) : (prepBlk (F := Ideal) A0 A1 A2 A3 A4 A5 A6 (ix2 3 j) : EReal) =
    open Classical in if (0 : EReal) < A5 (ix2 0 j) then min (max (A3 (ix2 0 j)) 0) height else A3 (ix2 0 j) := by
  show (k0_pay1 (F := Ideal) _ _ _ (ix2 0 j) : EReal) = _
  pointwise [k0_pay1, k0_pay17, k0_pay9, k0_pay11, k0_pay18]
/-- An item's score. -/
theorem prep4 (j : Fin 15360) : (prepBlk (F := Ideal) A0 A1 A2 A3 A4 A5 A6 (ix2 4 j) : EReal) =
    A5 (ix2 0 j) * scoreC (A0 (ix2 0 j)) (A1 (ix2 0 j)) (A2 (ix2 0 j)) (A3 (ix2 0 j)) (A4 (ix2 0 j)) + A6 (ix2 0 j) * scoreP (A4 (ix2 0 j)) := by
  show (k0_pay16 (F := Ideal) _ _ _ _ _ _ (ix2 0 j) : EReal) = _
  unfold scoreC scoreP share area
  pointwise [k0_pay16, k0_pay10, k0_pay11, k0_pay12, k0_pay13, k0_pay14, k0_pay15, k0_pay6, k0_pay7, k0_pay8, k0_pay9]
  simp only [zero_sub, ite_any]
/-- Whether an item's score is above the least. -/
theorem prep5 (j : Fin 15360) : (prepBlk (F := Ideal) A0 A1 A2 A3 A4 A5 A6 (ix2 5 j) : EReal) = bit (minScore < (prepBlk (F := Ideal) A0 A1 A2 A3 A4 A5 A6 (ix2 4 j) : EReal)) := by
  have h : ∀ v : FVec Ideal S1x15360 .f32, (k0_pay3 (F := Ideal) v (ix2 0 j) : EReal) = bit (minScore < v (ix2 0 j)) := fun v => by
    pointwise [k0_pay3, k0_pay2]
    exact sitofp_bit _
  exact h _
/-- An item's sorting key. -/
theorem prep6 (j : Fin 15360) : (prepBlk (F := Ideal) A0 A1 A2 A3 A4 A5 A6 (ix2 6 j) : EReal) = keyOf (prepBlk (F := Ideal) A0 A1 A2 A3 A4 A5 A6 (ix2 4 j) : EReal) := by
  have h : ∀ v : FVec Ideal S1x15360 .f32, (k0_pay4 (F := Ideal) v (ix2 0 j) : EReal) = keyOf (v (ix2 0 j)) := fun v => by
    pointwise [k0_pay4, k0_pay2]
    rw [zero_sub]
    unfold keyOf
    simp only [ite_any]
  exact h _

variable (T : FVec Ideal S15360x4 .f32)

/-- The suppression kernel's first rows: the box, if it is kept. -/
theorem nms0 (j : Fin 15360) : (nmsBlk (F := Ideal) T A1 A2 A3 A4 A5 A6 (ix2 0 j) : EReal) = A1 (ix2 0 j) * kept (F := Ideal) T A1 A2 A3 A4 A6 (ix2 0 j) := by
  show (k1_pay30 (F := Ideal) _ _ (ix2 0 j) : EReal) = _
  pointwise [k1_pay30, k1_pay18]
theorem nms1 (j : Fin 15360) : (nmsBlk (F := Ideal) T A1 A2 A3 A4 A5 A6 (ix2 1 j) : EReal) = A2 (ix2 0 j) * kept (F := Ideal) T A1 A2 A3 A4 A6 (ix2 0 j) := by
  show (k1_pay31 (F := Ideal) _ _ (ix2 0 j) : EReal) = _
  pointwise [k1_pay31, k1_pay19]
theorem nms2 (j : Fin 15360) : (nmsBlk (F := Ideal) T A1 A2 A3 A4 A5 A6 (ix2 2 j) : EReal) = A3 (ix2 0 j) * kept (F := Ideal) T A1 A2 A3 A4 A6 (ix2 0 j) := by
  show (k1_pay1 (F := Ideal) _ _ (ix2 0 j) : EReal) = _
  pointwise [k1_pay1, k1_pay20]
theorem nms3 (j : Fin 15360) : (nmsBlk (F := Ideal) T A1 A2 A3 A4 A5 A6 (ix2 3 j) : EReal) = A4 (ix2 0 j) * kept (F := Ideal) T A1 A2 A3 A4 A6 (ix2 0 j) := by
  show (k1_pay2 (F := Ideal) _ _ (ix2 0 j) : EReal) = _
  pointwise [k1_pay2, k1_pay21]
/-- Its fifth row: the logit of the score, if the box is kept. -/
theorem nms4 (j : Fin 15360) : (nmsBlk (F := Ideal) T A1 A2 A3 A4 A5 A6 (ix2 4 j) : EReal) = logit (A5 (ix2 0 j)) * kept (F := Ideal) T A1 A2 A3 A4 A6 (ix2 0 j) := by
  show (k1_pay3 (F := Ideal) _ _ (ix2 0 j) : EReal) = _
  pointwise [k1_pay3]
  rw [zero_sub]
  rfl

/-- The areas the suppression kernel stores are the boxes'. -/
theorem areas_at (j : Fin 15360) : (k1_pay22 (F := Ideal) A1 A2 A3 A4 (ix2 0 j) : EReal) = area (A1 (ix2 0 j)) (A2 (ix2 0 j)) (A3 (ix2 0 j)) (A4 (ix2 0 j)) := by
  pointwise [k1_pay22, k1_pay18, k1_pay19, k1_pay20, k1_pay21]
  rfl

end Cert.Proof.KI

end
-- ==== Proof.Sort.lean ====
module

public import proofs.«01_k».proof.Proof.KIGreedy
public import Idealize.ShloMosaic.Lib.SortFacts
public import Idealize.ShloMosaic.Lib.Routing.OpsSet

@[expose] public section

set_option maxRecDepth 16384
set_option maxHeartbeats 4000000

noncomputable section

/-! Stable sorting by a key, and what it makes of greedy selection. -/

namespace Cert.Proof.NMS

open Cert.Proof.KI
open Idealize.ShloMosaic

variable {n : ℕ} (key : Fin n → EReal)

/-- The first item comes before the second: it has the smaller key, or the same key and the smaller number. -/
def Lex (a b : Fin n) : Prop := key a < key b ∨ (key a = key b ∧ a < b)

/-- The item that a stable sort by the key puts at a place. -/
def ord : Fin n → Fin n := sortedFrom fun a b => decide (key a < key b)

theorem insert_lex (a : Fin n) : ∀ l : List (Fin n), l.Pairwise (Lex key) → (∀ b ∈ l, a < b) →
    (insertBefore (fun a b => decide (key a < key b)) a l).Pairwise (Lex key)
  | [], _, _ => List.pairwise_singleton _ _
  | b :: l, hl, hb => by
    rw [List.pairwise_cons] at hl
    unfold insertBefore
    by_cases h : key b < key a
    · rw [if_pos (decide_eq_true h)]
      refine List.pairwise_cons.mpr ⟨fun c hc => ?_, insert_lex a l hl.2 fun b hb' => hb b (List.mem_cons_of_mem _ hb')⟩
      rcases List.mem_cons.mp ((perm_insertBefore _ a l).mem_iff.mp hc) with rfl | hc'
      · exact Or.inl h
      · exact hl.1 c hc'
    · rw [if_neg (by simpa using h)]
      have hab : key a ≤ key b := not_lt.mp h
      refine List.pairwise_cons.mpr ⟨fun c hc => ?_, List.pairwise_cons.mpr hl⟩
      have hbc : key b ≤ key c := by
        rcases List.mem_cons.mp hc with rfl | hc'
        · exact le_rfl
        · rcases hl.1 c hc' with h' | h'
          · exact h'.le
          · exact h'.1.le
      rcases (hab.trans hbc).lt_or_eq with h' | h'
      · exact Or.inl h'
      · exact Or.inr ⟨h', hb c hc⟩

theorem stable_lex : ∀ l : List (Fin n), l.Pairwise (· < ·) → (stableSort (fun a b => decide (key a < key b)) l).Pairwise (Lex key)
  | [], _ => List.Pairwise.nil
  | a :: l, h => by
    rw [List.pairwise_cons] at h
    unfold stableSort
    exact insert_lex key a _ (stable_lex l h.2) fun b hb => h.1 b ((perm_stableSort _ l).mem_iff.mp hb)

/-- The sorted items are in order. -/
theorem ord_lex (i j : Fin n) (h : i < j) : Lex key (ord key i) (ord key j) := by
  have hp := List.pairwise_iff_get.mp (stable_lex key (List.finRange n) (List.pairwise_lt_finRange n))
  unfold ord sortedFrom sortPositions
  exact hp _ _ (by simp only [Fin.lt_def, Fin.val_cast]; exact h)

theorem ord_surj : Function.Surjective (ord key) := sortedFrom_surjective _
theorem ord_inj : Function.Injective (ord key) := sortedFrom_injective _

/-- The place of an item. -/
def pos (q : Fin n) : Fin n := Function.surjInv (ord_surj key) q
theorem ord_pos (q : Fin n) : ord key (pos key q) = q := Function.surjInv_eq _ q
theorem pos_ord (p : Fin n) : pos key (ord key p) = p := ord_inj key (ord_pos key _)

/-- An item's place is before another's just if the item comes before it. -/
theorem pos_lt (i j : Fin n) : pos key i < pos key j ↔ Lex key i j := by
  constructor
  · intro h
    have := ord_lex key _ _ h
    rwa [ord_pos, ord_pos] at this
  · intro h
    rcases lt_trichotomy (pos key i) (pos key j) with h' | h' | h'
    · exact h'
    · have e : i = j := by rw [← ord_pos key i, h', ord_pos]
      subst e
      rcases h with h | h
      · exact absurd h (lt_irrefl _)
      · exact absurd h.2 (lt_irrefl _)
    · have h2 := ord_lex key _ _ h'
      rw [ord_pos, ord_pos] at h2
      rcases h with h | h <;> rcases h2 with h2 | h2
      · exact absurd (h.trans h2) (lt_irrefl _)
      · exact absurd (h2.1 ▸ h) (lt_irrefl _)
      · exact absurd (h.1 ▸ h2) (lt_irrefl _)
      · exact absurd (h.2.trans h2.2) (lt_irrefl _)

/-- Sorting by a bijection's values is its inverse. -/
theorem sort_inv (o : Fin n → Fin n) (ho : Function.Bijective o) (p : Fin n) : o (sortedFrom (fun a b => decide (o a < o b)) p) = p := by
  have hm : StrictMono fun p => o (sortedFrom (fun a b => decide (o a < o b)) p) := by
    intro i j hij
    have h := sortedFrom_noInversion (fun a b => decide (o a < o b)) (fun a b => decide (o a < o b))
      (fun a b h => by simp only [decide_eq_true_eq, decide_eq_false_iff_not] at *; exact not_lt.mpr h.le) (fun _ _ h => h)
      (fun a b c h1 h2 => by simp only [decide_eq_false_iff_not, not_lt] at *; exact h2.trans h1) i j hij
    simp only [decide_eq_false_iff_not, not_lt] at h
    exact lt_of_le_of_ne h fun e => absurd (sortedFrom_injective _ (ho.1 e)) (ne_of_lt hij)
  have hr : Set.range (fun p => o (sortedFrom (fun a b => decide (o a < o b)) p)) = Set.range (id : Fin n → Fin n) := by
    rw [Set.range_id]
    exact (ho.2.comp (sortedFrom_surjective _)).range_eq
  have hi : StrictMono (id : Fin n → Fin n) := strictMono_id
  exact congrFun ((StrictMono.range_inj hm hi).mp hr) p

/-- Greedy selection in the sorted order, told of an item. -/
def Sel (v : Fin n → Prop) (S : Fin n → Fin n → Prop) (q : Fin n) : Prop :=
  Keep (fun p => v (ord key p)) (fun p p' => S (ord key p) (ord key p')) (pos key q)

theorem sel_iff (v : Fin n → Prop) (S : Fin n → Fin n → Prop) (q : Fin n) :
    Sel key v S q ↔ v q ∧ ∀ i, Lex key i q → Sel key v S i → ¬ S i q := by
  unfold Sel
  rw [keep_iff, ord_pos]
  refine and_congr_right fun _ => ⟨fun h i hi hk => ?_, fun h p hp hk => ?_⟩
  · have := h (pos key i) ((pos_lt key i q).mpr hi) hk
    rwa [ord_pos] at this
  · refine h (ord key p) ?_ (by rw [pos_ord]; exact hk)
    rw [← pos_lt, pos_ord]
    exact hp

/-- Items past the end that are not valid do not change the selection of the others. -/
theorem sel_pad {N : ℕ} (h : n ≤ N) (key' : Fin N → EReal) (v : Fin n → Prop) (v' : Fin N → Prop) (S : Fin n → Fin n → Prop)
    (S' : Fin N → Fin N → Prop) (hkey : ∀ i, key' (i.castLE h) = key i) (hv : ∀ i, v' (i.castLE h) ↔ v i)
    (hpad : ∀ j : Fin N, n ≤ j.val → ¬ v' j) (hS : ∀ i j, S' (i.castLE h) (j.castLE h) ↔ S i j) (q : Fin n) :
    Sel key' v' S' (q.castLE h) ↔ Sel key v S q := by
  have hl : ∀ i j : Fin n, Lex key' (i.castLE h) (j.castLE h) ↔ Lex key i j := fun i j => by
    unfold Lex
    rw [hkey, hkey]
    exact or_congr Iff.rfl (and_congr_right fun _ => Iff.rfl)
  refine greedy_unique (fun i j => pos key i < pos key j) (InvImage.wf (pos key) wellFounded_lt) v S (fun q => Sel key' v' S' (q.castLE h))
    (Sel key v S) (fun j => ?_) (fun j => ?_) q
  · rw [sel_iff, hv]
    refine and_congr_right fun _ => ⟨fun H i hi hk => ?_, fun H i hi hk => ?_⟩
    · rw [← hS]
      exact H _ ((hl i j).mpr ((pos_lt key i j).mp hi)) hk
    · by_cases hin : i.val < n
      · obtain ⟨i', rfl⟩ : ∃ i' : Fin n, i'.castLE h = i := ⟨⟨i.val, hin⟩, rfl⟩
        rw [hS]
        exact H i' ((pos_lt key i' j).mpr ((hl i' j).mp hi)) hk
      · exact absurd ((sel_iff key' v' S' i).mp hk).1 (hpad i (not_lt.mp hin))
  · rw [sel_iff]
    exact and_congr_right fun _ => forall_congr' fun i => by rw [pos_lt]

/-! ## The sort operation -/

theorem ofFin_ix1 (k : Fin n) : (Shape.Idx.ofFin k : (⟨1, ![n]⟩ : Shape).Idx) = ix1 k := by
  funext a
  obtain rfl : a = 0 := Subsingleton.elim _ _
  rfl

/-- The second result of a sort of pairs along the one axis. -/
theorem sort2_snd {α β : Type} (cmp : α × β → α × β → BitVec 1) (x : (⟨1, ![n]⟩ : Shape).Idx → α) (y : (⟨1, ![n]⟩ : Shape).Idx → β)
    (R : Fin n → Fin n → Bool) (hR : ∀ k k', (cmp (x (ix1 k), y (ix1 k)) (x (ix1 k'), y (ix1 k')) == 1#1) = R k k') (p : Fin n) :
    (Host.sort2 ⟨1, ![n]⟩ 0 cmp x y).2 (ix1 p) = y (ix1 (sortedFrom R p)) := by
  unfold Host.sort2
  rw [dif_pos (show 0 < (⟨1, ![n]⟩ : Shape).rank from Nat.one_pos)]
  have al : ∀ k : Fin n, (ix1 p : (⟨1, ![n]⟩ : Shape).Idx).along 0 k = ix1 k := fun k => (Shape.Idx.along_rank1 _ _).trans (ofFin_ix1 k)
  refine (congrArg y (al _)).trans (congrArg (fun q => y (ix1 q)) ?_)
  refine congrArg (fun R => sortedFrom R p) (funext fun k => funext fun k' => ?_)
  exact (congrArg₂ (fun a b => cmp (x a, y a) (x b, y b) == 1#1) (al k) (al k')).trans (hR k k')

end Cert.Proof.NMS

end
-- ==== Proof.Spec.lean ====
module

public import proofs.«01_k».proof.Proof.KIItem
public import proofs.«01_k».proof.Proof.Sort

@[expose] public section

noncomputable section

/-! What both programs compute of each of the 15000 items: its box, its score, and the overlap of two items. -/

namespace Cert.Proof.NMS

open Idealize.ShloMosaic
open Cert.Proof.KI (area inter iou thr tiny bit width height share scoreC scoreP keyOf logit minScore)

/-- The image's extent along a coordinate. -/
def lim : Fin 4 → EReal := ![width, height, width, height]

variable (X : Fin 10000 → Fin 5 → EReal) (Y : Fin 5000 → Fin 4 → EReal) (Z : Fin 5000 → EReal)

/-- An item's box: a cached box clipped to the image, or a proposal as given. -/
def box (q : Fin 15000) (d : Fin 4) : EReal :=
  if h : q.val < 10000 then min (max (X ⟨q.val, h⟩ (d.castLE (by decide))) 0) (lim d) else Y ⟨q.val - 10000, by omega⟩ d

/-- An item's score. -/
def score (q : Fin 15000) : EReal :=
  if h : q.val < 10000 then scoreC (X ⟨q.val, h⟩ 0) (X ⟨q.val, h⟩ 1) (X ⟨q.val, h⟩ 2) (X ⟨q.val, h⟩ 3) (X ⟨q.val, h⟩ 4) else scoreP (Z ⟨q.val - 10000, by omega⟩)

/-- An item's sorting key. -/
def skey (q : Fin 15000) : EReal := keyOf (score X Z q)

/-- An item is valid: its score exceeds the least. -/
def valid (q : Fin 15000) : Prop := minScore < score X Z q

/-- Two items' boxes overlap by more than the threshold. -/
def over (i j : Fin 15000) : Prop :=
  thr < iou (box X Y i 0) (box X Y i 1) (box X Y i 2) (box X Y i 3) (area (box X Y i 0) (box X Y i 1) (box X Y i 2) (box X Y i 3))
    (box X Y j 0) (box X Y j 1) (box X Y j 2) (box X Y j 3) (area (box X Y j 0) (box X Y j 1) (box X Y j 2) (box X Y j 3))

/-- An item is selected by the greedy suppression. -/
def chosen (q : Fin 15000) : Prop := Sel (skey X Z) (valid X Z) (over X Y) q

/-- The result's rows: an item's box and the logarithm of its odds if it is selected, noughts if not. -/
def outBox (q : Fin 15000) (d : Fin 4) : EReal := box X Y q d * bit (chosen X Y Z q)
def outScore (q : Fin 15000) : EReal := logit (score X Z q) * bit (chosen X Y Z q)

end Cert.Proof.NMS

end
-- ==== Proof.KIHost.lean ====
module

public import proofs.«01_k».proof.Proof.KIRun
public import Idealize.ShloMosaic.Lib.StableHlo.ReadAt
public import Idealize.ShloMosaic.Lib.Pointwise

@[expose] public section

set_option maxRecDepth 16384
set_option maxHeartbeats 4000000

noncomputable section

/-! What the operations before the preparing kernel leave in its operands. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ)

/-- The arguments, as numbers. -/
def in0 (c : Dev nD) (i : Fin 10000) (d : Fin 5) : EReal := (m ((c : Thread nD τ).loc main_arg0) : S10000x5.Idx → EReal) (ix2 i d)
def in1 (c : Dev nD) (i : Fin 5000) (d : Fin 4) : EReal := (m ((c : Thread nD τ).loc main_arg1) : S5000x4.Idx → EReal) (ix2 i d)
def in2 (c : Dev nD) (i : Fin 5000) : EReal := (m ((c : Thread nD τ).loc main_arg2) : S5000.Idx → EReal) (ix1 i)

/-- Cached values, then the proposals', then zeros. -/
def padded (f : Fin 10000 → EReal) (g : Fin 5000 → EReal) (j : Fin 15360) : EReal :=
  if h : j.val < 10000 then f ⟨j.val, h⟩ else if h : j.val - 10000 < 5000 then g ⟨j.val - 10000, h⟩ else 0

theorem v2_read (c : Dev nD) (i : Fin 10000) : (StableHlo.upto (hostOps0 (F := Ideal)) (fun b => m (c, b)) 6 (Proc.tc.devRef main_v2) : S10000.Idx → EReal) (ix1 i) = in0 m c i 0 := by
  after_reads_simp
  clean_types
  pointwise
  rfl
theorem v4_read (c : Dev nD) (i : Fin 5000) : (StableHlo.upto (hostOps0 (F := Ideal)) (fun b => m (c, b)) 6 (Proc.tc.devRef main_v4) : S5000.Idx → EReal) (ix1 i) = in1 m c i 0 := by
  after_reads_simp
  clean_types
  pointwise
  rfl
theorem v6_at (c : Dev nD) (j : Fin 15360) : ((V1 m c main_v6 : S1x15360.Idx → EReal) (ix2 0 j)) = padded (fun i => in0 m c i 0) (fun i => in1 m c i 0) j := by
  unfold V1 V0 padded
  after_reads_at
  exact dite_congr rfl (fun h => v2_read m c _) fun h => dite_congr rfl (fun h' => v4_read m c _) fun h' => by after_reads_at
theorem v8_read (c : Dev nD) (i : Fin 10000) : (StableHlo.upto (hostOps0 (F := Ideal)) (fun b => m (c, b)) 12 (Proc.tc.devRef main_v8) : S10000.Idx → EReal) (ix1 i) = in0 m c i 1 := by
  after_reads_simp
  clean_types
  pointwise
  rfl
theorem v10_read (c : Dev nD) (i : Fin 5000) : (StableHlo.upto (hostOps0 (F := Ideal)) (fun b => m (c, b)) 12 (Proc.tc.devRef main_v10) : S5000.Idx → EReal) (ix1 i) = in1 m c i 1 := by
  after_reads_simp
  clean_types
  pointwise
  rfl
theorem v12_at (c : Dev nD) (j : Fin 15360) : ((V1 m c main_v12 : S1x15360.Idx → EReal) (ix2 0 j)) = padded (fun i => in0 m c i 1) (fun i => in1 m c i 1) j := by
  unfold V1 V0 padded
  after_reads_at
  exact dite_congr rfl (fun h => v8_read m c _) fun h => dite_congr rfl (fun h' => v10_read m c _) fun h' => by after_reads_at
theorem v14_read (c : Dev nD) (i : Fin 10000) : (StableHlo.upto (hostOps0 (F := Ideal)) (fun b => m (c, b)) 18 (Proc.tc.devRef main_v14) : S10000.Idx → EReal) (ix1 i) = in0 m c i 2 := by
  after_reads_simp
  clean_types
  pointwise
  rfl
theorem v16_read (c : Dev nD) (i : Fin 5000) : (StableHlo.upto (hostOps0 (F := Ideal)) (fun b => m (c, b)) 18 (Proc.tc.devRef main_v16) : S5000.Idx → EReal) (ix1 i) = in1 m c i 2 := by
  after_reads_simp
  clean_types
  pointwise
  rfl
theorem v18_at (c : Dev nD) (j : Fin 15360) : ((V1 m c main_v18 : S1x15360.Idx → EReal) (ix2 0 j)) = padded (fun i => in0 m c i 2) (fun i => in1 m c i 2) j := by
  unfold V1 V0 padded
  after_reads_at
  exact dite_congr rfl (fun h => v14_read m c _) fun h => dite_congr rfl (fun h' => v16_read m c _) fun h' => by after_reads_at
theorem v20_read (c : Dev nD) (i : Fin 10000) : (StableHlo.upto (hostOps0 (F := Ideal)) (fun b => m (c, b)) 24 (Proc.tc.devRef main_v20) : S10000.Idx → EReal) (ix1 i) = in0 m c i 3 := by
  after_reads_simp
  clean_types
  pointwise
  rfl
theorem v22_read (c : Dev nD) (i : Fin 5000) : (StableHlo.upto (hostOps0 (F := Ideal)) (fun b => m (c, b)) 24 (Proc.tc.devRef main_v22) : S5000.Idx → EReal) (ix1 i) = in1 m c i 3 := by
  after_reads_simp
  clean_types
  pointwise
  rfl
theorem v24_at (c : Dev nD) (j : Fin 15360) : ((V1 m c main_v24 : S1x15360.Idx → EReal) (ix2 0 j)) = padded (fun i => in0 m c i 3) (fun i => in1 m c i 3) j := by
  unfold V1 V0 padded
  after_reads_at
  exact dite_congr rfl (fun h => v20_read m c _) fun h => dite_congr rfl (fun h' => v22_read m c _) fun h' => by after_reads_at
theorem v28_at (c : Dev nD) (j : Fin 15360) : ((V1 m c main_v28 : S1x15360.Idx → EReal) (ix2 0 j)) = padded (fun i => in0 m c i 4) (fun i => in2 m c i) j := by
  unfold V1 V0 padded
  after_reads_at
  after_reads_at
  rfl
theorem v32_at (c : Dev nD) (j : Fin 15360) : ((V1 m c main_v32 : S1x15360.Idx → EReal) (ix2 0 j)) = padded (fun _ => 1) (fun _ => 0) j := by
  unfold V1 V0 padded
  after_reads_at
  after_reads_at
theorem v36_at (c : Dev nD) (j : Fin 15360) : ((V1 m c main_v36 : S1x15360.Idx → EReal) (ix2 0 j)) = padded (fun _ => 0) (fun _ => 1) j := by
  unfold V1 V0 padded
  after_reads_at
  after_reads_at

end Cert.Proof.KI

end
-- ==== Proof.Gather.lean ====
module

public import proofs.«01_k».proof.Proof.Sort

@[expose] public section

set_option maxRecDepth 16384
set_option maxHeartbeats 4000000

noncomputable section

/-! Taking columns of a table by index words. -/

namespace Cert.Proof.NMS

open Idealize.ShloMosaic

/-- A gather that takes whole columns, read at a row and a place: the table at that row and the column the place's index word names. -/
theorem gather_column {α : Type} {r k n : ℕ} (d : GatherDims ⟨2, ![r, k]⟩ ⟨2, ![n, 1]⟩ ⟨2, ![r, n]⟩) (hoff : d.offsetDims = [0])
    (hcoll : d.collapsedSliceDims = [1]) (hob : d.operandBatchingDims = []) (hsim : d.startIndexMap = [1]) (hivd : d.indexVectorDim = 1)
    (x : (⟨2, ![r, k]⟩ : Shape).Idx → α) (idx : IVec ⟨2, ![n, 1]⟩ 32) (y : Fin r) (p : Fin n) (b : Fin k)
    (hb : idx (ix2 p (0 : Fin 1)) = BitVec.ofNat 32 b.val) (hk : k < 2 ^ 31) :
    Host.gather d x idx (ix2 y p) = x (ix2 y b) := by
  have nob : ∀ a, a ∉ d.operandBatchingDims := fun a => by rw [hob]; exact List.not_mem_nil
  have only0 : ∀ a ∈ d.offsetDims, a = (0 : Fin 2) := fun a h => by rw [hoff] at h; exact List.mem_singleton.mp h
  have only1 : ∀ a ∈ d.batchDims, a = (1 : Fin 2) := fun a h => by
    have h' : a ∉ d.offsetDims := of_decide_eq_true (List.mem_filter.mp h).2
    rw [hoff, List.mem_singleton] at h'
    rcases a with ⟨a, ha⟩
    have h2 : a < 2 := ha
    have h3 : a ≠ 0 := fun e => h' (Fin.ext e)
    exact Fin.ext (by show a = 1; omega)
  have at0 : ∀ a : Fin 2, a = 0 → (ix2 y p a).val = y.val := fun a h => by subst h; rfl
  have at1 : ∀ a : Fin 2, a = 1 → (ix2 y p a).val = p.val := fun a h => by subst h; rfl
  have word : ∀ h, d.siIdx (ix2 y p) ⟨d.startIndexMap.idxOf 1, h⟩ = ix2 p (0 : Fin 1) := fun h => by
    funext a
    refine Fin.ext ?_
    rcases a with ⟨_ | _ | a, ha⟩
    · unfold GatherDims.siIdx
      rw [dif_neg (by rw [hivd]; exact Nat.zero_ne_one)]
      unfold GatherDims.siCoord
      simp only [Fin.val_cast]
      exact at1 _ (only1 _ (List.getElem_mem _))
    · unfold GatherDims.siIdx
      rw [dif_pos (by rw [hivd])]
      show List.idxOf (1 : Fin 2) d.startIndexMap = 0
      rw [hsim]; simp
    · exact absurd ha (by show ¬ a + 1 + 1 < 2; omega)
  unfold Host.gather
  refine congrArg x (funext fun a => Fin.ext ?_)
  rcases a with ⟨_ | _ | a, ha⟩
  · have h1 : (0 : Fin 2) ∈ d.sKept := (d.mem_sKept 0).mpr ⟨by rw [hcoll, List.mem_singleton]; exact fun e => Nat.zero_ne_one (congrArg Fin.val e), nob 0⟩
    have h2 : (0 : Fin 2) ∉ d.startIndexMap := by rw [hsim, List.mem_singleton]; exact fun e => Nat.zero_ne_one (congrArg Fin.val e)
    show d.start (ix2 y p) idx 0 + d.batchCoord (ix2 y p) 0 + d.offCoord (ix2 y p) 0 = y.val
    rw [d.batchCoord_eq_zero _ _ (nob 0)]
    unfold GatherDims.start GatherDims.offCoord
    rw [dif_neg h2, dif_pos h1]
    simp only [Nat.zero_add]
    exact at0 _ (only0 _ (List.getElem_mem _))
  · have hc : (1 : Fin 2) ∈ d.collapsedSliceDims := by rw [hcoll]; exact List.mem_singleton.mpr rfl
    have h1 : (1 : Fin 2) ∉ d.sKept := fun h => ((d.mem_sKept 1).mp h).1 hc
    have h2 : (1 : Fin 2) ∈ d.startIndexMap := by rw [hsim]; exact List.mem_singleton.mpr rfl
    show d.start (ix2 y p) idx 1 + d.batchCoord (ix2 y p) 1 + d.offCoord (ix2 y p) 1 = b.val
    rw [d.batchCoord_eq_zero _ _ (nob 1), d.offCoord_eq_zero _ _ h1]
    unfold GatherDims.start
    rw [dif_pos h2, word, hb, d.slice_collapsed 1 hc, StableHlo.Predicate.toInt_ofNat_small _ (by have := b.isLt; omega)]
    show min ((b.val : ℤ)).toNat (k - 1) + 0 + 0 = b.val
    have := b.isLt
    omega
  · exact absurd ha (by show ¬ a + 1 + 1 < 2; omega)

/-- The usual wrap of a negative index leaves a small index word as it is. -/
theorem wrap_small (k i : ℕ) (h : i < 2 ^ 31) : Scalar.select (IntOp.cmpi .slt (BitVec.ofNat 32 i) 0#32) (IntOp.addi (BitVec.ofNat 32 i) (BitVec.ofNat 32 k)) (BitVec.ofNat 32 i) = BitVec.ofNat 32 i := by
  have e : IntOp.cmpi .slt (BitVec.ofNat 32 i) 0#32 = 0#1 := by
    have h2 : (BitVec.ofNat 32 i).toInt = i := StableHlo.Predicate.toInt_ofNat_small _ h
    show BitVec.ofBool (BitVec.slt _ _) = 0#1
    rw [BitVec.slt, h2]
    exact congrArg BitVec.ofBool (decide_eq_false (by simp))
  rw [e]; rfl

/-- Comparing two small words in order. -/
theorem slt_small (i j : ℕ) (hi : i < 2 ^ 31) (hj : j < 2 ^ 31) : IntOp.cmpi .slt (BitVec.ofNat 32 i) (BitVec.ofNat 32 j) = BitVec.ofBool (decide (i < j)) := by
  show BitVec.ofBool (BitVec.slt _ _) = _
  rw [BitVec.slt, StableHlo.Predicate.toInt_ofNat_small _ hi, StableHlo.Predicate.toInt_ofNat_small _ hj]
  simp

end Cert.Proof.NMS

end
-- ==== Proof.KIMid.lean ====
module

public import proofs.«01_k».proof.Proof.KIHost
public import proofs.«01_k».proof.Proof.Gather

@[expose] public section

set_option maxRecDepth 16384
set_option maxHeartbeats 4000000

noncomputable section

/-! What the operations around the suppression kernel leave, from any contents. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.NMS

variable (W : Valuation τ sig (Elt Ideal))

/-- The key row, as a vector. -/
theorem key_at (k : Fin 15360) : (StableHlo.after (hostOps1 (F := Ideal)) W main_v39 : S15360.Idx → EReal) (ix1 k) = (W main_v37 : S8x15360.Idx → EReal) (ix2 6 k) := by
  after_reads_at

theorem cmp_f (a b : EReal) (u w : BitVec 32) : (comparator_f32_i32_d0 (F := Ideal) (a, u) (b, w) == 1#1) = decide (a < b) := by
  unfold comparator_f32_i32_d0
  have h0 : (FloatOps.ofBits (F := Ideal) FTy.f32 0x00000000#32 : EReal) = 0 := by pointwise
  have e : ∀ x : EReal, Scalar.select (FloatOps.cmpf (F := Ideal) (φ := .f32) .une x x) (FloatOps.ofBits (F := Ideal) FTy.f32 0x7FC00000#32)
      (Scalar.select (FloatOps.cmpf (F := Ideal) (φ := .f32) .oeq x (FloatOps.ofBits (F := Ideal) FTy.f32 0x00000000#32)) (FloatOps.ofBits (F := Ideal) FTy.f32 0x00000000#32) x) = x := fun x => by
    have h1 : FloatOps.cmpf (F := Ideal) (φ := .f32) .une x x = 0#1 := by
      show BitVec.ofBool (decide (x ≠ x)) = 0#1
      simp
    rw [h1]
    show Scalar.select (BitVec.ofBool (decide (x = FloatOps.ofBits (F := Ideal) FTy.f32 0x00000000#32))) _ _ = x
    by_cases h : x = FloatOps.ofBits (F := Ideal) FTy.f32 0x00000000#32
    · rw [decide_eq_true h]; exact h.symm
    · rw [decide_eq_false h]; rfl
  dsimp only
  rw [e, e]
  show (BitVec.ofBool (decide (a < b)) == 1#1) = decide (a < b)
  by_cases h : a < b <;> simp [h]

/-- The order the first sort leaves. -/
theorem order_at (p : Fin 15360) : (StableHlo.after (hostOps1_1 (F := Ideal)) W main_v40 : S15360.Idx → BitVec 32) (ix1 p) =
    BitVec.ofNat 32 (ord (fun k => (W main_v39 : S15360.Idx → EReal) (ix1 k)) p).val := by
  after_reads_simp
  simp -implicitDefEqProofs only [StableHlo.TRef.toBuf, StableHlo.TRef.ofBuf, cast_cast, cast_eq]
  refine (sort2_snd _ _ _ _ (fun k k' => cmp_f _ _ _ _) p).trans ?_
  rfl

/-- The order the second sort leaves: each item's place. -/
theorem place_at (key : Fin 15360 → EReal) (h : ∀ p, (W main_v40 : S15360.Idx → BitVec 32) (ix1 p) = BitVec.ofNat 32 (ord key p).val) (q : Fin 15360) :
    (StableHlo.after (hostOps2 (F := Ideal)) W main_v57 : S15360.Idx → BitVec 32) (ix1 q) = BitVec.ofNat 32 (pos key q).val := by
  after_reads_simp
  simp -implicitDefEqProofs only [StableHlo.TRef.toBuf, StableHlo.TRef.ofBuf, cast_cast, cast_eq]
  refine (sort2_snd _ _ _ (fun a b => decide (ord key a < ord key b)) (fun k k' => ?_) q).trans ?_
  · show (IntOp.cmpi .slt _ _ == 1#1) = _
    rw [h, h, slt_small _ _ (by have := (ord key k).isLt; omega) (by have := (ord key k').isLt; omega)]
    by_cases hh : ord key k < ord key k'
    · rw [decide_eq_true hh, decide_eq_true (Fin.lt_def.mp hh)]; rfl
    · rw [decide_eq_false hh, decide_eq_false (fun x => hh (Fin.lt_def.mpr x))]; rfl
  · have e : sortedFrom (fun a b => decide (ord key a < ord key b)) q = pos key q :=
      ord_inj key ((sort_inv (ord key) ⟨ord_inj key, ord_surj key⟩ q).trans (ord_pos key q).symm)
    rw [e]
    rfl

/-- The index words of the first gather. -/
theorem index_at (p : Fin 15360) (i : ℕ) (hi : i < 2 ^ 31) (h : (W main_v40 : S15360.Idx → BitVec 32) (ix1 p) = BitVec.ofNat 32 i) :
    (StableHlo.after (hostOps1_2 (F := Ideal)) W main_v46 : S15360x1.Idx → BitVec 32) (ix2 p 0) = BitVec.ofNat 32 i := by
  after_reads_at
  rw [h]
  exact wrap_small 15360 i hi

theorem gathered_eq : (StableHlo.after (hostOps1_2 (F := Ideal)) W main_v47 : S8x15360.Idx → EReal) =
    Host.gather gather_S8x15360_S15360x1_S8x15360_0_1_n_n_1_1_81 (W main_v37 : S8x15360.Idx → EReal) (StableHlo.after (hostOps1_2 (F := Ideal)) W main_v46 : S15360x1.Idx → BitVec 32) := by
  after_reads_simp

/-- The gathered table. -/
theorem gathered_at (key : Fin 15360 → EReal) (h : ∀ p, (W main_v40 : S15360.Idx → BitVec 32) (ix1 p) = BitVec.ofNat 32 (ord key p).val) (d : Fin 8) (p : Fin 15360) :
    (StableHlo.after (hostOps1_2 (F := Ideal)) W main_v47 : S8x15360.Idx → EReal) (ix2 d p) = (W main_v37 : S8x15360.Idx → EReal) (ix2 d (ord key p)) := by
  rw [gathered_eq]
  exact gather_column gather_S8x15360_S15360x1_S8x15360_0_1_n_n_1_1_81 rfl rfl rfl rfl rfl _ _ d p _ (index_at W p _ (by have := (ord key p).isLt; omega) (h p)) (by norm_num)

/-- The suppression kernel's operands, from the gathered table. -/
theorem boxes_at (p : Fin 15360) (d : Fin 4) : (StableHlo.after (hostOps1_2 (F := Ideal)) W main_v49 : S15360x4.Idx → EReal) (ix2 p d) =
    (StableHlo.after (hostOps1_2 (F := Ideal)) W main_v47 : S8x15360.Idx → EReal) (ix2 (d.castLE (by decide)) p) := by
  have e : (StableHlo.after (hostOps1_2 (F := Ideal)) W main_v49 : S15360x4.Idx → EReal) =
      transpose S15360x4 [1, 0] (extractStridedSlice S4x15360 ![0, 0] (StableHlo.after (hostOps1_2 (F := Ideal)) W main_v47 : S8x15360.Idx → EReal) slices_S8x15360_S4x15360_0_0) transposes_S4x15360_S15360x4_1_0 := by
    after_reads_simp
  rw [e]
  pointwise
  rfl
theorem row0_at (p : Fin 15360) : (StableHlo.after (hostOps1_2 (F := Ideal)) W main_v50 : S1x15360.Idx → EReal) (ix2 0 p) =
    (StableHlo.after (hostOps1_2 (F := Ideal)) W main_v47 : S8x15360.Idx → EReal) (ix2 0 p) := by
  have e : (StableHlo.after (hostOps1_2 (F := Ideal)) W main_v50 : S1x15360.Idx → EReal) =
      extractStridedSlice S1x15360 ![0, 0] (StableHlo.after (hostOps1_2 (F := Ideal)) W main_v47 : S8x15360.Idx → EReal) slices_S8x15360_S1x15360_0_0 := by
    after_reads_simp
  rw [e]
  pointwise
theorem row1_at (p : Fin 15360) : (StableHlo.after (hostOps1_2 (F := Ideal)) W main_v51 : S1x15360.Idx → EReal) (ix2 0 p) =
    (StableHlo.after (hostOps1_2 (F := Ideal)) W main_v47 : S8x15360.Idx → EReal) (ix2 1 p) := by
  have e : (StableHlo.after (hostOps1_2 (F := Ideal)) W main_v51 : S1x15360.Idx → EReal) =
      extractStridedSlice S1x15360 ![1, 0] (StableHlo.after (hostOps1_2 (F := Ideal)) W main_v47 : S8x15360.Idx → EReal) slices_S8x15360_S1x15360_1_0 := by
    after_reads_simp
  rw [e]
  pointwise
theorem row2_at (p : Fin 15360) : (StableHlo.after (hostOps1_2 (F := Ideal)) W main_v52 : S1x15360.Idx → EReal) (ix2 0 p) =
    (StableHlo.after (hostOps1_2 (F := Ideal)) W main_v47 : S8x15360.Idx → EReal) (ix2 2 p) := by
  have e : (StableHlo.after (hostOps1_2 (F := Ideal)) W main_v52 : S1x15360.Idx → EReal) =
      extractStridedSlice S1x15360 ![2, 0] (StableHlo.after (hostOps1_2 (F := Ideal)) W main_v47 : S8x15360.Idx → EReal) slices_S8x15360_S1x15360_2_0 := by
    after_reads_simp
  rw [e]
  pointwise
theorem row3_at (p : Fin 15360) : (StableHlo.after (hostOps1_2 (F := Ideal)) W main_v53 : S1x15360.Idx → EReal) (ix2 0 p) =
    (StableHlo.after (hostOps1_2 (F := Ideal)) W main_v47 : S8x15360.Idx → EReal) (ix2 3 p) := by
  have e : (StableHlo.after (hostOps1_2 (F := Ideal)) W main_v53 : S1x15360.Idx → EReal) =
      extractStridedSlice S1x15360 ![3, 0] (StableHlo.after (hostOps1_2 (F := Ideal)) W main_v47 : S8x15360.Idx → EReal) slices_S8x15360_S1x15360_3_0 := by
    after_reads_simp
  rw [e]
  pointwise
theorem row4_at (p : Fin 15360) : (StableHlo.after (hostOps1_2 (F := Ideal)) W main_v54 : S1x15360.Idx → EReal) (ix2 0 p) =
    (StableHlo.after (hostOps1_2 (F := Ideal)) W main_v47 : S8x15360.Idx → EReal) (ix2 4 p) := by
  have e : (StableHlo.after (hostOps1_2 (F := Ideal)) W main_v54 : S1x15360.Idx → EReal) =
      extractStridedSlice S1x15360 ![4, 0] (StableHlo.after (hostOps1_2 (F := Ideal)) W main_v47 : S8x15360.Idx → EReal) slices_S8x15360_S1x15360_4_0 := by
    after_reads_simp
  rw [e]
  pointwise
theorem row5_at (p : Fin 15360) : (StableHlo.after (hostOps1_2 (F := Ideal)) W main_v55 : S1x15360.Idx → EReal) (ix2 0 p) =
    (StableHlo.after (hostOps1_2 (F := Ideal)) W main_v47 : S8x15360.Idx → EReal) (ix2 5 p) := by
  have e : (StableHlo.after (hostOps1_2 (F := Ideal)) W main_v55 : S1x15360.Idx → EReal) =
      extractStridedSlice S1x15360 ![5, 0] (StableHlo.after (hostOps1_2 (F := Ideal)) W main_v47 : S8x15360.Idx → EReal) slices_S8x15360_S1x15360_5_0 := by
    after_reads_simp
  rw [e]
  pointwise

/-- The index words of the last gather. -/
theorem back_at (q : Fin 15360) (i : ℕ) (hi : i < 2 ^ 31) (h : (W main_v57 : S15360.Idx → BitVec 32) (ix1 q) = BitVec.ofNat 32 i) :
    (StableHlo.after (hostOps2_1 (F := Ideal)) W main_v64 : S15360x1.Idx → BitVec 32) (ix2 q 0) = BitVec.ofNat 32 i := by
  after_reads_at
  rw [h]
  exact wrap_small 15360 i hi

/-- The result: at an item the suppression kernel's column at the item's place. -/
theorem result_at (q : Fin 15000) (d : Fin 5) (b : Fin 15360) (h : (W main_v57 : S15360.Idx → BitVec 32) (ix1 (q.castLE (by decide))) = BitVec.ofNat 32 b.val) :
    (StableHlo.after (hostOps2_1 (F := Ideal)) W main_v67 : S15000x5.Idx → EReal) (ix2 q d) = (W main_v56 : S8x15360.Idx → EReal) (ix2 (d.castLE (by decide)) b) := by
  have e : (StableHlo.after (hostOps2_1 (F := Ideal)) W main_v67 : S15000x5.Idx → EReal) =
      transpose S15000x5 [1, 0] (extractStridedSlice S5x15000 ![0, 0] (StableHlo.after (hostOps2_1 (F := Ideal)) W main_v65 : S5x15360.Idx → EReal) slices_S5x15360_S5x15000_0_0) transposes_S5x15000_S15000x5_1_0 := by
    after_reads_simp
  have g : (StableHlo.after (hostOps2_1 (F := Ideal)) W main_v65 : S5x15360.Idx → EReal) =
      Host.gather gather_S5x15360_S15360x1_S5x15360_0_1_n_n_1_1_51 (StableHlo.after (hostOps2_1 (F := Ideal)) W main_v58 : S5x15360.Idx → EReal) (StableHlo.after (hostOps2_1 (F := Ideal)) W main_v64 : S15360x1.Idx → BitVec 32) := by
    after_reads_simp
  have t : (StableHlo.after (hostOps2_1 (F := Ideal)) W main_v67 : S15000x5.Idx → EReal) (ix2 q d) = (StableHlo.after (hostOps2_1 (F := Ideal)) W main_v65 : S5x15360.Idx → EReal) (ix2 d (q.castLE (by decide))) := by
    rw [e]
    pointwise
    rfl
  rw [t, g]
  refine (gather_column gather_S5x15360_S15360x1_S5x15360_0_1_n_n_1_1_51 rfl rfl rfl rfl rfl _ _ d _ b (back_at W _ _ (by have := b.isLt; omega) h) (by norm_num)).trans ?_
  after_reads_at
  rfl

end Cert.Proof.KI

end
-- ==== Proof.KIWin.lean ====
module

public import proofs.«01_k».proof.Proof.KIRun
public import Idealize.ShloMosaic.Lib.Pipeline.ValueKit

@[expose] public section

set_option maxRecDepth 16384
set_option maxHeartbeats 4000000

noncomputable section

/-! What the regions' windows stage, and what the regions leave in their result arrays. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem at_zero : ∀ a : Fin 2, (![0, 0] : Fin 2 → ℕ) a = 0 := by decide

variable {F : FTy → Type} [FloatOps F]
variable (V : (c : Dev nD) → (b : Ref sig .tc) → Buf (Elt F) ((c : Thread nD τ).loc b))

theorem idx0_0 : ∀ t : Fin (cfg0 (F := F)).N, win0_0.index t = ![0, 0] := (by decide +kernel : ∀ t : Fin grid0.N, _)
theorem stage0_0 (c : Dev nD) : G0.stg0 V c = V c main_v6 := by
  funext y
  refine congrArg (V c main_v6) (?_ : ((cfg0 (F := F)).win 0 |>.blk t0_0).view.emb y = y)
  funext a
  refine Fin.ext ((ValueKit.view_emb_slice_whole_unit_val _ _ _ _ _ _).trans ?_)
  show win0_0.index t0_0 a * _ + _ = _
  rw [(congrFun (idx0_0 (F := F) t0_0) a).trans (at_zero a), Nat.zero_mul, Nat.zero_add]
theorem idx0_1 : ∀ t : Fin (cfg0 (F := F)).N, win0_1.index t = ![0, 0] := (by decide +kernel : ∀ t : Fin grid0.N, _)
theorem stage0_1 (c : Dev nD) : G0.stg1 V c = V c main_v12 := by
  funext y
  refine congrArg (V c main_v12) (?_ : ((cfg0 (F := F)).win 1 |>.blk t0_0).view.emb y = y)
  funext a
  refine Fin.ext ((ValueKit.view_emb_slice_whole_unit_val _ _ _ _ _ _).trans ?_)
  show win0_1.index t0_0 a * _ + _ = _
  rw [(congrFun (idx0_1 (F := F) t0_0) a).trans (at_zero a), Nat.zero_mul, Nat.zero_add]
theorem idx0_2 : ∀ t : Fin (cfg0 (F := F)).N, win0_2.index t = ![0, 0] := (by decide +kernel : ∀ t : Fin grid0.N, _)
theorem stage0_2 (c : Dev nD) : G0.stg2 V c = V c main_v18 := by
  funext y
  refine congrArg (V c main_v18) (?_ : ((cfg0 (F := F)).win 2 |>.blk t0_0).view.emb y = y)
  funext a
  refine Fin.ext ((ValueKit.view_emb_slice_whole_unit_val _ _ _ _ _ _).trans ?_)
  show win0_2.index t0_0 a * _ + _ = _
  rw [(congrFun (idx0_2 (F := F) t0_0) a).trans (at_zero a), Nat.zero_mul, Nat.zero_add]
theorem idx0_3 : ∀ t : Fin (cfg0 (F := F)).N, win0_3.index t = ![0, 0] := (by decide +kernel : ∀ t : Fin grid0.N, _)
theorem stage0_3 (c : Dev nD) : G0.stg3 V c = V c main_v24 := by
  funext y
  refine congrArg (V c main_v24) (?_ : ((cfg0 (F := F)).win 3 |>.blk t0_0).view.emb y = y)
  funext a
  refine Fin.ext ((ValueKit.view_emb_slice_whole_unit_val _ _ _ _ _ _).trans ?_)
  show win0_3.index t0_0 a * _ + _ = _
  rw [(congrFun (idx0_3 (F := F) t0_0) a).trans (at_zero a), Nat.zero_mul, Nat.zero_add]
theorem idx0_4 : ∀ t : Fin (cfg0 (F := F)).N, win0_4.index t = ![0, 0] := (by decide +kernel : ∀ t : Fin grid0.N, _)
theorem stage0_4 (c : Dev nD) : G0.stg4 V c = V c main_v28 := by
  funext y
  refine congrArg (V c main_v28) (?_ : ((cfg0 (F := F)).win 4 |>.blk t0_0).view.emb y = y)
  funext a
  refine Fin.ext ((ValueKit.view_emb_slice_whole_unit_val _ _ _ _ _ _).trans ?_)
  show win0_4.index t0_0 a * _ + _ = _
  rw [(congrFun (idx0_4 (F := F) t0_0) a).trans (at_zero a), Nat.zero_mul, Nat.zero_add]
theorem idx0_5 : ∀ t : Fin (cfg0 (F := F)).N, win0_5.index t = ![0, 0] := (by decide +kernel : ∀ t : Fin grid0.N, _)
theorem stage0_5 (c : Dev nD) : G0.stg5 V c = V c main_v32 := by
  funext y
  refine congrArg (V c main_v32) (?_ : ((cfg0 (F := F)).win 5 |>.blk t0_0).view.emb y = y)
  funext a
  refine Fin.ext ((ValueKit.view_emb_slice_whole_unit_val _ _ _ _ _ _).trans ?_)
  show win0_5.index t0_0 a * _ + _ = _
  rw [(congrFun (idx0_5 (F := F) t0_0) a).trans (at_zero a), Nat.zero_mul, Nat.zero_add]
theorem idx0_6 : ∀ t : Fin (cfg0 (F := F)).N, win0_6.index t = ![0, 0] := (by decide +kernel : ∀ t : Fin grid0.N, _)
theorem stage0_6 (c : Dev nD) : G0.stg6 V c = V c main_v36 := by
  funext y
  refine congrArg (V c main_v36) (?_ : ((cfg0 (F := F)).win 6 |>.blk t0_0).view.emb y = y)
  funext a
  refine Fin.ext ((ValueKit.view_emb_slice_whole_unit_val _ _ _ _ _ _).trans ?_)
  show win0_6.index t0_0 a * _ + _ = _
  rw [(congrFun (idx0_6 (F := F) t0_0) a).trans (at_zero a), Nat.zero_mul, Nat.zero_add]
theorem idx0_7 : ∀ t : Fin (cfg0 (F := F)).N, win0_7.index t = ![0, 0] := (by decide +kernel : ∀ t : Fin grid0.N, _)
/-- The result array ends at the block's value. -/
theorem final0 (c : Dev nD) : (G0.dat V c).arrAt 7 (cfg0 (F := F)).N = G0.left V c := by
  refine (G0.dat V c).arrAt_eq_of_after_last 7 t0_0 (by decide +kernel : win0_7.WholeAt (⟨0, by decide⟩ : Fin grid0.N)) _ fun j => ?_
  blk_simp
  rfl
theorem idx1_0 : ∀ t : Fin (cfg1 (F := F)).N, win1_0.index t = ![0, 0] := (by decide +kernel : ∀ t : Fin grid1.N, _)
theorem stage1_0 (c : Dev nD) : G1.stg0 V c = V c main_v49 := by
  funext y
  refine congrArg (V c main_v49) (?_ : ((cfg1 (F := F)).win 0 |>.blk t1_0).view.emb y = y)
  funext a
  refine Fin.ext ((ValueKit.view_emb_slice_whole_unit_val _ _ _ _ _ _).trans ?_)
  show win1_0.index t1_0 a * _ + _ = _
  rw [(congrFun (idx1_0 (F := F) t1_0) a).trans (at_zero a), Nat.zero_mul, Nat.zero_add]
theorem idx1_1 : ∀ t : Fin (cfg1 (F := F)).N, win1_1.index t = ![0, 0] := (by decide +kernel : ∀ t : Fin grid1.N, _)
theorem stage1_1 (c : Dev nD) : G1.stg1 V c = V c main_v50 := by
  funext y
  refine congrArg (V c main_v50) (?_ : ((cfg1 (F := F)).win 1 |>.blk t1_0).view.emb y = y)
  funext a
  refine Fin.ext ((ValueKit.view_emb_slice_whole_unit_val _ _ _ _ _ _).trans ?_)
  show win1_1.index t1_0 a * _ + _ = _
  rw [(congrFun (idx1_1 (F := F) t1_0) a).trans (at_zero a), Nat.zero_mul, Nat.zero_add]
theorem idx1_2 : ∀ t : Fin (cfg1 (F := F)).N, win1_2.index t = ![0, 0] := (by decide +kernel : ∀ t : Fin grid1.N, _)
theorem stage1_2 (c : Dev nD) : G1.stg2 V c = V c main_v51 := by
  funext y
  refine congrArg (V c main_v51) (?_ : ((cfg1 (F := F)).win 2 |>.blk t1_0).view.emb y = y)
  funext a
  refine Fin.ext ((ValueKit.view_emb_slice_whole_unit_val _ _ _ _ _ _).trans ?_)
  show win1_2.index t1_0 a * _ + _ = _
  rw [(congrFun (idx1_2 (F := F) t1_0) a).trans (at_zero a), Nat.zero_mul, Nat.zero_add]
theorem idx1_3 : ∀ t : Fin (cfg1 (F := F)).N, win1_3.index t = ![0, 0] := (by decide +kernel : ∀ t : Fin grid1.N, _)
theorem stage1_3 (c : Dev nD) : G1.stg3 V c = V c main_v52 := by
  funext y
  refine congrArg (V c main_v52) (?_ : ((cfg1 (F := F)).win 3 |>.blk t1_0).view.emb y = y)
  funext a
  refine Fin.ext ((ValueKit.view_emb_slice_whole_unit_val _ _ _ _ _ _).trans ?_)
  show win1_3.index t1_0 a * _ + _ = _
  rw [(congrFun (idx1_3 (F := F) t1_0) a).trans (at_zero a), Nat.zero_mul, Nat.zero_add]
theorem idx1_4 : ∀ t : Fin (cfg1 (F := F)).N, win1_4.index t = ![0, 0] := (by decide +kernel : ∀ t : Fin grid1.N, _)
theorem stage1_4 (c : Dev nD) : G1.stg4 V c = V c main_v53 := by
  funext y
  refine congrArg (V c main_v53) (?_ : ((cfg1 (F := F)).win 4 |>.blk t1_0).view.emb y = y)
  funext a
  refine Fin.ext ((ValueKit.view_emb_slice_whole_unit_val _ _ _ _ _ _).trans ?_)
  show win1_4.index t1_0 a * _ + _ = _
  rw [(congrFun (idx1_4 (F := F) t1_0) a).trans (at_zero a), Nat.zero_mul, Nat.zero_add]
theorem idx1_5 : ∀ t : Fin (cfg1 (F := F)).N, win1_5.index t = ![0, 0] := (by decide +kernel : ∀ t : Fin grid1.N, _)
theorem stage1_5 (c : Dev nD) : G1.stg5 V c = V c main_v54 := by
  funext y
  refine congrArg (V c main_v54) (?_ : ((cfg1 (F := F)).win 5 |>.blk t1_0).view.emb y = y)
  funext a
  refine Fin.ext ((ValueKit.view_emb_slice_whole_unit_val _ _ _ _ _ _).trans ?_)
  show win1_5.index t1_0 a * _ + _ = _
  rw [(congrFun (idx1_5 (F := F) t1_0) a).trans (at_zero a), Nat.zero_mul, Nat.zero_add]
theorem idx1_6 : ∀ t : Fin (cfg1 (F := F)).N, win1_6.index t = ![0, 0] := (by decide +kernel : ∀ t : Fin grid1.N, _)
theorem stage1_6 (c : Dev nD) : G1.stg6 V c = V c main_v55 := by
  funext y
  refine congrArg (V c main_v55) (?_ : ((cfg1 (F := F)).win 6 |>.blk t1_0).view.emb y = y)
  funext a
  refine Fin.ext ((ValueKit.view_emb_slice_whole_unit_val _ _ _ _ _ _).trans ?_)
  show win1_6.index t1_0 a * _ + _ = _
  rw [(congrFun (idx1_6 (F := F) t1_0) a).trans (at_zero a), Nat.zero_mul, Nat.zero_add]
theorem idx1_7 : ∀ t : Fin (cfg1 (F := F)).N, win1_7.index t = ![0, 0] := (by decide +kernel : ∀ t : Fin grid1.N, _)
/-- The result array ends at the block's value. -/
theorem final1 (c : Dev nD) : (G1.dat V c).arrAt 7 (cfg1 (F := F)).N = G1.left V c := by
  refine (G1.dat V c).arrAt_eq_of_after_last 7 t1_0 (by decide +kernel : win1_7.WholeAt (⟨0, by decide⟩ : Fin grid1.N)) _ fun j => ?_
  blk_simp
  rfl

end Cert.Proof.KI

end
-- ==== Proof.KIOut.lean ====
module

public import proofs.«01_k».proof.Proof.KIItem
public import proofs.«01_k».proof.Proof.KIMid
public import proofs.«01_k».proof.Proof.KIWin

@[expose] public section

set_option maxRecDepth 16384
set_option maxHeartbeats 4000000

noncomputable section

/-! What the suppression kernel is given, at a place. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.NMS

variable (m : (ℓ : Loc nD τ sig) → Buf (Elt Ideal) ℓ) (c : Dev nD)

/-- The preparing kernel's result at a row and an item. -/
def R (d : Fin 8) (j : Fin 15360) : EReal := (resA m c : S8x15360.Idx → EReal) (ix2 d j)

/-- The sorting keys. -/
def keyK (j : Fin 15360) : EReal := R m c 6 j

/-- The overlap of two items' boxes exceeds the threshold. -/
def SK (i j : Fin 15360) : Prop :=
  thr < iou (R m c 0 i) (R m c 1 i) (R m c 2 i) (R m c 3 i) (area (R m c 0 i) (R m c 1 i) (R m c 2 i) (R m c 3 i))
    (R m c 0 j) (R m c 1 j) (R m c 2 j) (R m c 3 j) (area (R m c 0 j) (R m c 1 j) (R m c 2 j) (R m c 3 j))

theorem order4 (p : Fin 15360) : (V4 m (outB m) c main_v40 : S15360.Idx → BitVec 32) (ix1 p) = BitVec.ofNat 32 (ord (keyK m c) p).val := by
  refine (order_at (V3 m (outB m) c) p).trans ?_
  have e : (fun k => (V3 m (outB m) c main_v39 : S15360.Idx → EReal) (ix1 k)) = keyK m c := funext fun k =>
    (key_at (V2 m (outB m) c) k).trans (congrFun (V2_out m c) _)
  rw [e]

theorem table5 (d : Fin 8) (p : Fin 15360) : (V5 m (outB m) c main_v47 : S8x15360.Idx → EReal) (ix2 d p) = R m c d (ord (keyK m c) p) := by
  refine (gathered_at (V4 m (outB m) c) (keyK m c) (order4 m c) d p).trans ?_
  exact congrFun ((V4_of m (outB m) c main_v37 (by decide)).trans ((V3_of m (outB m) c main_v37 (by decide)).trans (V2_out m c))) _

/-- The suppression kernel's operands. -/
theorem op0 (p : Fin 15360) (d : Fin 4) : (G1.stg0 (Wb m) c : S15360x4.Idx → EReal) (ix2 p d) = R m c (d.castLE (by decide)) (ord (keyK m c) p) := by
  refine (congrFun ((stage1_0 (Wb m) c).trans (congrFun (V5_outB m c).symm _)) _).trans ?_
  exact (boxes_at (V4 m (outB m) c) p d).trans (table5 m c _ p)
theorem op1 (p : Fin 15360) : (G1.stg1 (Wb m) c : S1x15360.Idx → EReal) (ix2 0 p) = R m c 0 (ord (keyK m c) p) := by
  refine (congrFun ((stage1_1 (Wb m) c).trans (congrFun (V5_outB m c).symm _)) _).trans ?_
  exact (row0_at (V4 m (outB m) c) p).trans (table5 m c _ p)
theorem op2 (p : Fin 15360) : (G1.stg2 (Wb m) c : S1x15360.Idx → EReal) (ix2 0 p) = R m c 1 (ord (keyK m c) p) := by
  refine (congrFun ((stage1_2 (Wb m) c).trans (congrFun (V5_outB m c).symm _)) _).trans ?_
  exact (row1_at (V4 m (outB m) c) p).trans (table5 m c _ p)
theorem op3 (p : Fin 15360) : (G1.stg3 (Wb m) c : S1x15360.Idx → EReal) (ix2 0 p) = R m c 2 (ord (keyK m c) p) := by
  refine (congrFun ((stage1_3 (Wb m) c).trans (congrFun (V5_outB m c).symm _)) _).trans ?_
  exact (row2_at (V4 m (outB m) c) p).trans (table5 m c _ p)
theorem op4 (p : Fin 15360) : (G1.stg4 (Wb m) c : S1x15360.Idx → EReal) (ix2 0 p) = R m c 3 (ord (keyK m c) p) := by
  refine (congrFun ((stage1_4 (Wb m) c).trans (congrFun (V5_outB m c).symm _)) _).trans ?_
  exact (row3_at (V4 m (outB m) c) p).trans (table5 m c _ p)
theorem op5 (p : Fin 15360) : (G1.stg5 (Wb m) c : S1x15360.Idx → EReal) (ix2 0 p) = R m c 4 (ord (keyK m c) p) := by
  refine (congrFun ((stage1_5 (Wb m) c).trans (congrFun (V5_outB m c).symm _)) _).trans ?_
  exact (row4_at (V4 m (outB m) c) p).trans (table5 m c _ p)
theorem op6 (p : Fin 15360) : (G1.stg6 (Wb m) c : S1x15360.Idx → EReal) (ix2 0 p) = R m c 5 (ord (keyK m c) p) := by
  refine (congrFun ((stage1_6 (Wb m) c).trans (congrFun (V5_outB m c).symm _)) _).trans ?_
  exact (row5_at (V4 m (outB m) c) p).trans (table5 m c _ p)

end Cert.Proof.KI

end
-- ==== Proof.KIKeptAt.lean ====
module

public import proofs.«01_k».proof.Proof.KIOut

@[expose] public section

set_option maxRecDepth 16384
set_option maxHeartbeats 4000000

noncomputable section

/-! The scratch row the suppression leaves, at a place. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.NMS

variable (m : (ℓ : Loc nD τ sig) → Buf (Elt Ideal) ℓ) (c : Dev nD)

/-- The scratch row the suppression leaves, at a place. -/
def keptRow (p : Fin 15360) : EReal :=
  kept (F := Ideal) (G1.stg0 (Wb m) c) (G1.stg1 (Wb m) c) (G1.stg2 (Wb m) c) (G1.stg3 (Wb m) c) (G1.stg4 (Wb m) c) (G1.stg6 (Wb m) c) (ix2 0 p)

/-- The scratch row, at a place. -/
theorem kept_place (v : Fin 15360 → Prop) (hv : ∀ j, R m c 5 j = bit (v j)) (p : Fin 15360) :
    keptRow m c p =
      bit (Keep (fun p => v (ord (keyK m c) p)) (fun p p' => SK m c (ord (keyK m c) p) (ord (keyK m c) p')) p) := by
  refine (kept_at _ _ _ _ _ (fun p => v (ord (keyK m c) p)) _ (fun J => (op6 m c J).trans (hv _)) p).trans ?_
  refine congrArg (fun S => bit (Keep _ S p)) (funext fun i => funext fun j => ?_)
  unfold SS Sup SK
  rw [areas_at, op1, op2, op3, op4, op0, op0, op0, op0]
  rfl

end Cert.Proof.KI

end
-- ==== Proof.KIResult.lean ====
module

public import proofs.«01_k».proof.Proof.KIKeptAt

@[expose] public section

set_option maxRecDepth 16384
set_option maxHeartbeats 4000000

noncomputable section

/-! The kernel's result, at an item. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.NMS

variable (m : (ℓ : Loc nD τ sig) → Buf (Elt Ideal) ℓ) (c : Dev nD)

theorem place7 (q : Fin 15360) : (V7 m (outB m) c main_v57 : S15360.Idx → BitVec 32) (ix1 q) = BitVec.ofNat 32 (pos (keyK m c) q).val := by
  refine place_at (V6 m (outB m) c) (keyK m c) (fun p => ?_) q
  refine (congrFun ((V6_ne m c main_v40 (by decide)).trans ((congrFun (V5_outB m c).symm _).trans (V5_of m (outB m) c main_v40 (by decide)))) _).trans ?_
  exact order4 m c p

theorem out_row (q : Fin 15000) (d : Fin 5) :
    (V8 m (outB m) c main_v67 : S15000x5.Idx → EReal) (ix2 q d) = (resB m c : S8x15360.Idx → EReal) (ix2 (d.castLE (by decide)) (pos (keyK m c) (q.castLE (by decide)))) := by
  refine (result_at (V7 m (outB m) c) q d _ (place7 m c _)).trans ?_
  exact congrFun ((V7_of m (outB m) c main_v56 (by decide)).trans (V6_out m c)) _

theorem resB_eq : (resB m c : S8x15360.Idx → EReal) = nmsBlk (F := Ideal) (G1.stg0 (Wb m) c) (G1.stg1 (Wb m) c) (G1.stg2 (Wb m) c) (G1.stg3 (Wb m) c) (G1.stg4 (Wb m) c) (G1.stg5 (Wb m) c) (G1.stg6 (Wb m) c) :=
  final1 (Wb m) c

/-- Five values by number. -/
def five (a0 a1 a2 a3 a4 : EReal) : Fin 5 → EReal := ![a0, a1, a2, a3, a4]
theorem five0 (a0 a1 a2 a3 a4 : EReal) : five a0 a1 a2 a3 a4 0 = a0 := rfl
theorem five1 (a0 a1 a2 a3 a4 : EReal) : five a0 a1 a2 a3 a4 1 = a1 := rfl
theorem five2 (a0 a1 a2 a3 a4 : EReal) : five a0 a1 a2 a3 a4 2 = a2 := rfl
theorem five3 (a0 a1 a2 a3 a4 : EReal) : five a0 a1 a2 a3 a4 3 = a3 := rfl
theorem five4 (a0 a1 a2 a3 a4 : EReal) : five a0 a1 a2 a3 a4 4 = a4 := rfl

/-- The value kept at an item, in its five columns. -/
def val (q : Fin 15360) : Fin 5 → EReal := five (R m c 0 q) (R m c 1 q) (R m c 2 q) (R m c 3 q) (logit (R m c 4 q))

theorem res0 (p : Fin 15360) : (resB m c : S8x15360.Idx → EReal) (ix2 0 p) = R m c 0 (ord (keyK m c) p) * keptRow m c p := by
  rw [resB_eq, nms0, op1]; rfl
theorem res1 (p : Fin 15360) : (resB m c : S8x15360.Idx → EReal) (ix2 1 p) = R m c 1 (ord (keyK m c) p) * keptRow m c p := by
  rw [resB_eq, nms1, op2]; rfl
theorem res2 (p : Fin 15360) : (resB m c : S8x15360.Idx → EReal) (ix2 2 p) = R m c 2 (ord (keyK m c) p) * keptRow m c p := by
  rw [resB_eq, nms2, op3]; rfl
theorem res3 (p : Fin 15360) : (resB m c : S8x15360.Idx → EReal) (ix2 3 p) = R m c 3 (ord (keyK m c) p) * keptRow m c p := by
  rw [resB_eq, nms3, op4]; rfl
theorem res4 (p : Fin 15360) : (resB m c : S8x15360.Idx → EReal) (ix2 4 p) = logit (R m c 4 (ord (keyK m c) p)) * keptRow m c p := by
  rw [resB_eq, nms4, op5]; rfl

theorem castLE0 : (Fin.castLE (by decide) (0 : Fin 5) : Fin 8) = 0 := rfl
theorem castLE1 : (Fin.castLE (by decide) (1 : Fin 5) : Fin 8) = 1 := rfl
theorem castLE2 : (Fin.castLE (by decide) (2 : Fin 5) : Fin 8) = 2 := rfl
theorem castLE3 : (Fin.castLE (by decide) (3 : Fin 5) : Fin 8) = 3 := rfl
theorem castLE4 : (Fin.castLE (by decide) (4 : Fin 5) : Fin 8) = 4 := rfl

/-- The suppression's result at an item's place, in the five rows that leave. -/
theorem res_at (q : Fin 15360) (d : Fin 5) :
    (resB m c : S8x15360.Idx → EReal) (ix2 (d.castLE (by decide)) (pos (keyK m c) q)) = val m c q d * keptRow m c (pos (keyK m c) q) := by
  have e : ord (keyK m c) (pos (keyK m c) q) = q := ord_pos _ _
  match d with
  | 0 =>
    rw [castLE0, res0, e]
    exact congrArg (· * keptRow m c (pos (keyK m c) q)) (five0 _ _ _ _ _).symm
  | 1 =>
    rw [castLE1, res1, e]
    exact congrArg (· * keptRow m c (pos (keyK m c) q)) (five1 _ _ _ _ _).symm
  | 2 =>
    rw [castLE2, res2, e]
    exact congrArg (· * keptRow m c (pos (keyK m c) q)) (five2 _ _ _ _ _).symm
  | 3 =>
    rw [castLE3, res3, e]
    exact congrArg (· * keptRow m c (pos (keyK m c) q)) (five3 _ _ _ _ _).symm
  | 4 =>
    rw [castLE4, res4, e]
    exact congrArg (· * keptRow m c (pos (keyK m c) q)) (five4 _ _ _ _ _).symm

/-- The kernel's result: each item's value where the item is selected, nought elsewhere. -/
theorem out_at (v : Fin 15360 → Prop) (hv : ∀ j, R m c 5 j = bit (v j)) (q : Fin 15000) (d : Fin 5) :
    (V8 m (outB m) c main_v67 : S15000x5.Idx → EReal) (ix2 q d) = val m c (q.castLE (by decide)) d * bit (Sel (keyK m c) v (SK m c) (q.castLE (by decide))) := by
  rw [out_row, res_at]
  exact congrArg (fun z => val m c (q.castLE (by decide)) d * z) (kept_place m c v hv _)

end Cert.Proof.KI

end
-- ==== Proof.KISpec.lean ====
module

public import proofs.«01_k».proof.Proof.Spec
public import proofs.«01_k».proof.Proof.KIHost
public import proofs.«01_k».proof.Proof.KIResult

@[expose] public section

set_option maxRecDepth 16384
set_option maxHeartbeats 4000000

noncomputable section

/-! The kernel's result is what the items' boxes, scores and overlaps give. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.NMS

variable (m : (ℓ : Loc nD τ sig) → Buf (Elt Ideal) ℓ) (c : Dev nD)

theorem prep_eq : (resA m c : S8x15360.Idx → EReal) = prepBlk (F := Ideal) (G0.stg0 (Wa m) c) (G0.stg1 (Wa m) c) (G0.stg2 (Wa m) c) (G0.stg3 (Wa m) c) (G0.stg4 (Wa m) c) (G0.stg5 (Wa m) c) (G0.stg6 (Wa m) c) :=
  final0 (Wa m) c

/-- The preparing kernel's operands. -/
theorem a0 (j : Fin 15360) : (G0.stg0 (Wa m) c : S1x15360.Idx → EReal) (ix2 0 j) = padded (fun i => in0 m c i 0) (fun i => in1 m c i 0) j :=
  (congrFun (stage0_0 (Wa m) c) _).trans (v6_at m c j)
theorem a1 (j : Fin 15360) : (G0.stg1 (Wa m) c : S1x15360.Idx → EReal) (ix2 0 j) = padded (fun i => in0 m c i 1) (fun i => in1 m c i 1) j :=
  (congrFun (stage0_1 (Wa m) c) _).trans (v12_at m c j)
theorem a2 (j : Fin 15360) : (G0.stg2 (Wa m) c : S1x15360.Idx → EReal) (ix2 0 j) = padded (fun i => in0 m c i 2) (fun i => in1 m c i 2) j :=
  (congrFun (stage0_2 (Wa m) c) _).trans (v18_at m c j)
theorem a3 (j : Fin 15360) : (G0.stg3 (Wa m) c : S1x15360.Idx → EReal) (ix2 0 j) = padded (fun i => in0 m c i 3) (fun i => in1 m c i 3) j :=
  (congrFun (stage0_3 (Wa m) c) _).trans (v24_at m c j)
theorem a4 (j : Fin 15360) : (G0.stg4 (Wa m) c : S1x15360.Idx → EReal) (ix2 0 j) = padded (fun i => in0 m c i 4) (fun i => in2 m c i) j :=
  (congrFun (stage0_4 (Wa m) c) _).trans (v28_at m c j)
theorem a5 (j : Fin 15360) : (G0.stg5 (Wa m) c : S1x15360.Idx → EReal) (ix2 0 j) = padded (fun i => 1) (fun i => 0) j :=
  (congrFun (stage0_5 (Wa m) c) _).trans (v32_at m c j)
theorem a6 (j : Fin 15360) : (G0.stg6 (Wa m) c : S1x15360.Idx → EReal) (ix2 0 j) = padded (fun i => 0) (fun i => 1) j :=
  (congrFun (stage0_6 (Wa m) c) _).trans (v36_at m c j)

theorem padded_cached (f : Fin 10000 → EReal) (g : Fin 5000 → EReal) (j : Fin 15360) (h : j.val < 10000) : padded f g j = f ⟨j.val, h⟩ := dif_pos h
theorem padded_given (f : Fin 10000 → EReal) (g : Fin 5000 → EReal) (j : Fin 15360) (h : ¬ j.val < 10000) (h' : j.val - 10000 < 5000) : padded f g j = g ⟨j.val - 10000, h'⟩ :=
  (dif_neg h).trans (dif_pos h')
theorem padded_none (f : Fin 10000 → EReal) (g : Fin 5000 → EReal) (j : Fin 15360) (h : 15000 ≤ j.val) : padded f g j = 0 :=
  (dif_neg (by omega)).trans (dif_neg (by omega))

/-- A coordinate clipped where the item is cached. -/
theorem clip_eq (f : Fin 10000 → EReal) (g : Fin 5000 → EReal) (w : EReal) (q : Fin 15000) (j : Fin 15360) (hj : j.val = q.val) :
    (open Classical in if (0 : EReal) < padded (fun i => 1) (fun i => 0) j then min (max (padded f g j) 0) w else padded f g j) =
      if h : q.val < 10000 then min (max (f ⟨q.val, h⟩) 0) w else g ⟨q.val - 10000, by omega⟩ := by
  have hq := q.isLt
  by_cases h : q.val < 10000
  · rw [padded_cached _ _ j (by omega), if_pos zero_lt_one, padded_cached _ _ j (by omega), dif_pos h]
    exact congrArg (fun t => min (max (f t) 0) w) (Fin.ext hj)
  · rw [padded_given _ _ j (by omega) (by omega), if_neg (lt_irrefl _), padded_given _ _ j (by omega) (by omega), dif_neg h]
    exact congrArg g (Fin.ext (by show j.val - 10000 = q.val - 10000; omega))

variable (q : Fin 15000)

theorem box0 : R m c 0 (q.castLE (by decide)) = box (in0 m c) (in1 m c) q 0 := by
  unfold R
  rw [prep_eq, prep0, a5, a0]
  exact clip_eq _ _ _ q _ rfl
theorem box1 : R m c 1 (q.castLE (by decide)) = box (in0 m c) (in1 m c) q 1 := by
  unfold R
  rw [prep_eq, prep1, a5, a1]
  exact clip_eq _ _ _ q _ rfl
theorem box2 : R m c 2 (q.castLE (by decide)) = box (in0 m c) (in1 m c) q 2 := by
  unfold R
  rw [prep_eq, prep2, a5, a2]
  exact clip_eq _ _ _ q _ rfl
theorem box3 : R m c 3 (q.castLE (by decide)) = box (in0 m c) (in1 m c) q 3 := by
  unfold R
  rw [prep_eq, prep3, a5, a3]
  exact clip_eq _ _ _ q _ rfl

theorem scoreAt (j : Fin 15360) : R m c 4 j = padded (fun i => 1) (fun i => 0) j * scoreC (padded (fun i => in0 m c i 0) (fun i => in1 m c i 0) j) (padded (fun i => in0 m c i 1) (fun i => in1 m c i 1) j)
      (padded (fun i => in0 m c i 2) (fun i => in1 m c i 2) j) (padded (fun i => in0 m c i 3) (fun i => in1 m c i 3) j) (padded (fun i => in0 m c i 4) (fun i => in2 m c i) j)
      + padded (fun i => 0) (fun i => 1) j * scoreP (padded (fun i => in0 m c i 4) (fun i => in2 m c i) j) := by
  unfold R
  rw [prep_eq, prep4, a0, a1, a2, a3, a4, a5, a6]

theorem scoreItem : R m c 4 (q.castLE (by decide)) = score (in0 m c) (in2 m c) q := by
  have hq := q.isLt
  have hj : (q.castLE (by decide) : Fin 15360).val = q.val := rfl
  rw [scoreAt]
  unfold score
  by_cases h : q.val < 10000
  · rw [dif_pos h]
    simp only [padded_cached _ _ (q.castLE (by decide) : Fin 15360) h]
    rw [one_mul, zero_mul, add_zero]
    rfl
  · rw [dif_neg h]
    simp only [padded_given _ _ (q.castLE (by decide) : Fin 15360) h (show q.val - 10000 < 5000 by omega)]
    rw [one_mul, zero_mul, zero_add]
    rfl

theorem scoreNone (j : Fin 15360) (h : 15000 ≤ j.val) : R m c 4 j = 0 := by
  rw [scoreAt]
  simp only [padded_none _ _ j h]
  rw [zero_mul, zero_mul, add_zero]

theorem flagAt (j : Fin 15360) : R m c 5 j = bit (minScore < R m c 4 j) := by
  unfold R
  rw [prep_eq, prep5]

theorem keyAt (j : Fin 15360) : R m c 6 j = keyOf (R m c 4 j) := by
  unfold R
  rw [prep_eq, prep6]

theorem minScore_pos : ¬ minScore < (0 : EReal) := by
  simp [minScore, Ideal.ofBits, Ideal.ieee, -EReal.coe_mul]

/-- The kernel selects an item just if the greedy suppression of the 15000 items does. -/
theorem chosen_iff : Sel (keyK m c) (fun j => minScore < R m c 4 j) (SK m c) (q.castLE (by decide)) ↔ chosen (in0 m c) (in1 m c) (in2 m c) q := by
  unfold chosen
  refine sel_pad (skey (in0 m c) (in2 m c)) (by decide) (keyK m c) _ _ _ _ (fun q => ?_) (fun q => ?_) (fun j hj => ?_) (fun i j => ?_) q
  · unfold keyK skey
    rw [keyAt, scoreItem]
  · unfold valid
    rw [scoreItem]
  · rw [scoreNone m c j hj]
    exact minScore_pos
  · unfold SK NMS.over
    rw [box0, box1, box2, box3, box0, box1, box2, box3]

/-- The kernel's result, box columns. -/
theorem final_box (q : Fin 15000) (d : Fin 4) : (V8 m (outB m) c main_v67 : S15000x5.Idx → EReal) (ix2 q (d.castLE (by decide))) = outBox (in0 m c) (in1 m c) (in2 m c) q d := by
  unfold outBox
  refine (out_at m c (fun j => minScore < R m c 4 j) (flagAt m c) q (d.castLE (by decide))).trans ?_
  rw [bit_congr (chosen_iff m c q)]
  refine congrArg (· * _) ?_
  match d with
  | 0 => exact (five0 _ _ _ _ _).trans (box0 m c q)
  | 1 => exact (five1 _ _ _ _ _).trans (box1 m c q)
  | 2 => exact (five2 _ _ _ _ _).trans (box2 m c q)
  | 3 => exact (five3 _ _ _ _ _).trans (box3 m c q)

/-- The kernel's result, score column. -/
theorem final_score (q : Fin 15000) : (V8 m (outB m) c main_v67 : S15000x5.Idx → EReal) (ix2 q 4) = outScore (in0 m c) (in1 m c) (in2 m c) q := by
  unfold outScore
  refine (out_at m c (fun j => minScore < R m c 4 j) (flagAt m c) q 4).trans ?_
  rw [bit_congr (chosen_iff m c q)]
  unfold val
  rw [five4, scoreItem]

end Cert.Proof.KI

end
-- ==== Proof.RILoop.lean ====
module

public import proofs.«01_k».proof.Proof.KIPt
public import proofs.«01_k».proof.Proof.KIGreedy
public import proofs.«01_k».proof.Proof.Gather
public import proofs.«01_k».proof.Proof.RIFrame
public import Idealize.ShloMosaic.Lib.StableHlo.ReadAt
public import Idealize.ShloMosaic.Lib.Pointwise
public import Idealize.ShloMosaic.Lib.DynamicIndex

@[expose] public section

set_option maxRecDepth 16384
set_option maxHeartbeats 4000000

noncomputable section

/-! One trip of the reference's suppression loop, at an item. -/

namespace Cert.Proof.RI

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.Proof.KI (area inter iou thr tiny bit)

variable (V0 : Valuation τ sig (Elt Ideal))

theorem fits1 (i : Fin 15000) : Shape.Slices S15000 ![i.val] S1 :=
  ⟨rfl, fun a => by have := i.isLt; fin_cases a; show i.val + 1 ≤ 15000; omega⟩
theorem fits2 (i : Fin 15000) : Shape.Slices S15000x4 ![i.val, 0] S1x2 :=
  ⟨rfl, fun a => by have := i.isLt; fin_cases a; · show i.val + 1 ≤ 15000; omega
                    · show 0 + 2 ≤ 4; omega⟩
theorem fits3 (i : Fin 15000) : Shape.Slices S15000x4 ![i.val, 2] S1x2 :=
  ⟨rfl, fun a => by have := i.isLt; fin_cases a; · show i.val + 1 ≤ 15000; omega
                    · show 2 + 2 ≤ 4; omega⟩

/-- A wrapped index, read as a number. -/
theorem start_word (i : Fin 15000) (w d : IVec S_ 32) (hw : w = constantI S_ 32 (BitVec.ofNat 32 i.val)) (e : S_.Idx) :
    BitVec.toInt (select (cmpi .slt w (constantI S_ 32 0#32)) (addi w d) w e) = (i.val : Int) := by
  subst hw
  exact toInt_wrap_ofNat i.val (by have := i.isLt; omega)

variable (i : Fin 15000) (hi : (V0 main_v98_4 : IVec S_ 32) = constantI S_ 32 (BitVec.ofNat 32 i.val))
variable (B : Fin 15000 → Fin 4 → EReal) (hB : ∀ j d, (V0 main_v98_0 : S15000x4.Idx → EReal) (ix2 j d) = B j d)

theorem zero_at : (id (constant (F := Ideal) S_ FTy.f32 0#32) ix0 : EReal) = 0 := by
  show Ideal.ofBits FTy.f32 0#32 = 0
  simp [Ideal.ofBits, Ideal.ieee]

include hi hB in
theorem inter_at (j : Fin 15000) : (res_main_while0b_v152 V0 : S15000.Idx → EReal) (ix1 j) =
    inter (B i 0) (B i 1) (B i 2) (B i 3) (B j 0) (B j 1) (B j 2) (B j 3) := by
  unfold res_main_while0b_v152 res_main_while0b_v147
  rw [Host.dynamicSlice_eq_extractStridedSlice S1x2 _ _ ![i.val, 2] _ (fits3 i), Host.dynamicSlice_eq_extractStridedSlice S1x2 _ _ ![i.val, 0] _ (fits2 i)]
  · pointwise
    rw [zero_at]
    refine (congrArg₂ (· * ·) (max_comm _ _) (max_comm _ _)).trans ?_
    unfold inter
    rw [← hB i 0, ← hB i 1, ← hB i 2, ← hB i 3, ← hB j 0, ← hB j 1, ← hB j 2, ← hB j 3]
  · intro a; fin_cases a
    · exact start_word i _ _ hi _
    · exact toInt_wrap_ofNat (s := S_) (i := Shape.Idx.first h_S_) (d := constantI S_ 32 4#32) 0 (by omega)
  · intro a; fin_cases a
    · exact start_word i _ _ hi _
    · exact toInt_wrap_ofNat (s := S_) (i := Shape.Idx.first h_S_) (d := constantI S_ 32 4#32) 2 (by omega)

variable (A : Fin 15000 → EReal) (hA : ∀ j, (V0 main_v98_1 : S15000.Idx → EReal) (ix1 j) = A j)
variable (hx : ∀ j : Fin 15000, (V0 main_v98_2 : S15000.Idx → BitVec 32) (ix1 j) = BitVec.ofNat 32 j.val)

theorem flag_word (k g a b : BitVec 1) : IntOp.andi k (~~~ IntOp.andi (IntOp.andi a b) g) = 1#1 ↔ k = 1#1 ∧ ¬ ((a = 1#1 ∧ b = 1#1) ∧ g = 1#1) := by
  revert k g a b; decide

include hi hB hA hx in
theorem keep_at (j : Fin 15000) : (step_main_v98_5 V0 : S15000.Idx → BitVec 1) (ix1 j) = 1#1 ↔
    (V0 main_v98_5 : S15000.Idx → BitVec 1) (ix1 j) = 1#1 ∧
    ¬ ((thr < iou (B i 0) (B i 1) (B i 2) (B i 3) (A i) (B j 0) (B j 1) (B j 2) (B j 3) (A j) ∧ i.val < j.val) ∧
      (V0 main_v98_5 : S15000.Idx → BitVec 1) (ix1 i) = 1#1) := by
  unfold step_main_v98_5
  rw [Host.dynamicSlice_eq_extractStridedSlice S1 _ _ ![i.val] _ (fits1 i), Host.dynamicSlice_eq_extractStridedSlice S1 _ _ ![i.val] _ (fits1 i)]
  · simp only [id_eq]
    pointwise
    rw [inter_at V0 i hi B hB]
    have h4 : (V0 main_v98_4 : S_.Idx → BitVec 32) ix0 = BitVec.ofNat 32 i.val := congrFun hi _
    have e : (IntOp.cmpi CmpIPredicate.sgt ((V0 main_v98_2 : S15000.Idx → BitVec 32) (ix1 j)) ((V0 main_v98_4 : S_.Idx → BitVec 32) ix0) = 1#1) ↔ i.val < j.val := by
      rw [hx, h4]
      show BitVec.ofBool (BitVec.slt (BitVec.ofNat 32 i.val) (BitVec.ofNat 32 j.val)) = 1#1 ↔ _
      have e' : BitVec.ofBool (BitVec.slt (BitVec.ofNat 32 i.val) (BitVec.ofNat 32 j.val)) = _ := NMS.slt_small i.val j.val (by have := i.isLt; omega) (by have := j.isLt; omega)
      rw [e', WordCmp.ofBool_decide_eq_one_iff]
    refine (flag_word _ _ _ _).trans (and_congr Iff.rfl (not_congr (and_congr (and_congr ?_ e) Iff.rfl)))
    unfold iou
    rw [← hA i, ← hA j]
    exact WordCmp.ofBool_decide_eq_one_iff _
  · intro a; fin_cases a
    exact start_word i _ _ hi _
  · intro a; fin_cases a
    exact start_word i _ _ hi _

end Cert.Proof.RI
end
-- ==== Proof.RIPre.lean ====
module

public import proofs.«01_k».proof.Proof.KIItem
public import proofs.«01_k».proof.Proof.Gather
public import proofs.«01_k».proof.Proof.Spec
public import proofs.«01_k».proof.Proof.RILoop
public import Idealize.ShloMosaic.Lib.StableHlo.ReadAt
public import Idealize.ShloMosaic.Lib.Pointwise

@[expose] public section

set_option maxRecDepth 16384
set_option maxHeartbeats 4000000

noncomputable section

/-! The reference's boxes and scores, at an item. -/

namespace Cert.Proof.RI

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.Proof.NMS
open Cert.Proof.KI (area inter iou thr tiny bit width height share scoreC scoreP keyOf logit minScore)

variable (W : Valuation τ sig (Elt Ideal))

theorem zero_word : Ideal.ofBits FTy.f32 0#32 = 0 := by simp [Ideal.ofBits, Ideal.ieee]
theorem lit_0 : lit0 (S4.rowMajor (ix1 0)) = 0#32 := by decide +kernel
theorem lit_1 : lit0 (S4.rowMajor (ix1 1)) = 0#32 := by decide +kernel
theorem lit_2 : lit0 (S4.rowMajor (ix1 2)) = 0x44A6A000#32 := by decide +kernel
theorem lit_3 : lit0 (S4.rowMajor (ix1 3)) = 0x44480000#32 := by decide +kernel

/-- The cached rows given. -/
abbrev inX (i : Fin 10000) (d : Fin 5) : EReal := (W main_arg0 : S10000x5.Idx → EReal) (ix2 i d)
abbrev inY (i : Fin 5000) (d : Fin 4) : EReal := (W main_arg1 : S5000x4.Idx → EReal) (ix2 i d)
abbrev inZ (i : Fin 5000) : EReal := (W main_arg2 : S5000.Idx → EReal) (ix1 i)

/-- The contents before the boxes and scores are put together. -/
abbrev U16 : Valuation τ sig (Elt Ideal) := afterL [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15] W

theorem v39_at (i : Fin 10000) : (U16 W main_v39 : S10000.Idx → EReal) (ix1 i) = scoreC (inX W i 0) (inX W i 1) (inX W i 2) (inX W i 3) (inX W i 4) := by
  unfold U16
  simp only [afterL_cons, afterL_nil]
  after_reads_at
  rw [zero_at, lit_0, lit_1, lit_2, lit_3, zero_word]
  unfold scoreC share area inX
  simp only [max_comm (0 : EReal)]

theorem v42_at (i : Fin 10000) : (U16 W main_v42 : S10000.Idx → EReal) (ix1 i) = min (max (inX W i 0) 0) width := by
  unfold U16
  simp only [afterL_cons, afterL_nil]
  after_reads_at
  rw [zero_at, max_comm]
  exact min_comm _ _
theorem v45_at (i : Fin 10000) : (U16 W main_v45 : S10000.Idx → EReal) (ix1 i) = min (max (inX W i 1) 0) height := by
  unfold U16
  simp only [afterL_cons, afterL_nil]
  after_reads_at
  rw [zero_at, max_comm]
  exact min_comm _ _
theorem v48_at (i : Fin 10000) : (U16 W main_v48 : S10000.Idx → EReal) (ix1 i) = min (max (inX W i 2) 0) width := by
  unfold U16
  simp only [afterL_cons, afterL_nil]
  after_reads_at
  rw [zero_at, max_comm]
  exact min_comm _ _
theorem v51_at (i : Fin 10000) : (U16 W main_v51 : S10000.Idx → EReal) (ix1 i) = min (max (inX W i 3) 0) height := by
  unfold U16
  simp only [afterL_cons, afterL_nil]
  after_reads_at
  rw [zero_at, max_comm]
  exact min_comm _ _

theorem v52_read (i : Fin 10000) : (upto (hostOps0_16 (F := Ideal)) W 4 (Proc.devRef .tc main_v52) : S10000x1.Idx → EReal) (ix2 i 0) = (W main_v42 : S10000.Idx → EReal) (ix1 i) := by
  after_reads_at
theorem v63_0 (q : Fin 15000) : (after (hostOps0_16 (F := Ideal)) W main_v63 : S15000x4.Idx → EReal) (ix2 q 0) =
    if h : q.val < 10000 then (W main_v42 : S10000.Idx → EReal) (ix1 ⟨q.val, h⟩) else inY W ⟨q.val - 10000, by omega⟩ 0 := by
  after_reads_at
  exact dite_congr rfl (fun h => v52_read W _) fun h => rfl
theorem v53_read (i : Fin 10000) : (upto (hostOps0_16 (F := Ideal)) W 4 (Proc.devRef .tc main_v53) : S10000x1.Idx → EReal) (ix2 i 0) = (W main_v45 : S10000.Idx → EReal) (ix1 i) := by
  after_reads_at
theorem v63_1 (q : Fin 15000) : (after (hostOps0_16 (F := Ideal)) W main_v63 : S15000x4.Idx → EReal) (ix2 q 1) =
    if h : q.val < 10000 then (W main_v45 : S10000.Idx → EReal) (ix1 ⟨q.val, h⟩) else inY W ⟨q.val - 10000, by omega⟩ 1 := by
  after_reads_at
  exact dite_congr rfl (fun h => v53_read W _) fun h => rfl
theorem v54_read (i : Fin 10000) : (upto (hostOps0_16 (F := Ideal)) W 4 (Proc.devRef .tc main_v54) : S10000x1.Idx → EReal) (ix2 i 0) = (W main_v48 : S10000.Idx → EReal) (ix1 i) := by
  after_reads_at
theorem v63_2 (q : Fin 15000) : (after (hostOps0_16 (F := Ideal)) W main_v63 : S15000x4.Idx → EReal) (ix2 q 2) =
    if h : q.val < 10000 then (W main_v48 : S10000.Idx → EReal) (ix1 ⟨q.val, h⟩) else inY W ⟨q.val - 10000, by omega⟩ 2 := by
  after_reads_at
  exact dite_congr rfl (fun h => v54_read W _) fun h => rfl
theorem v55_read (i : Fin 10000) : (upto (hostOps0_16 (F := Ideal)) W 4 (Proc.devRef .tc main_v55) : S10000x1.Idx → EReal) (ix2 i 0) = (W main_v51 : S10000.Idx → EReal) (ix1 i) := by
  after_reads_at
theorem v63_3 (q : Fin 15000) : (after (hostOps0_16 (F := Ideal)) W main_v63 : S15000x4.Idx → EReal) (ix2 q 3) =
    if h : q.val < 10000 then (W main_v51 : S10000.Idx → EReal) (ix1 ⟨q.val, h⟩) else inY W ⟨q.val - 10000, by omega⟩ 3 := by
  after_reads_at
  exact dite_congr rfl (fun h => v55_read W _) fun h => rfl

theorem v64_at (q : Fin 15000) : (after (hostOps0_16 (F := Ideal)) W main_v64 : S15000.Idx → EReal) (ix1 q) =
    if h : q.val < 10000 then (W main_v39 : S10000.Idx → EReal) (ix1 ⟨q.val, h⟩) else scoreP (inZ W ⟨q.val - 10000, by omega⟩) := by
  after_reads_at
  exact dite_congr rfl (fun h => rfl) fun h => rfl
theorem v39_keep (i : Fin 10000) : (upto (hostOps0_16 (F := Ideal)) W 14 (Proc.devRef .tc main_v39) : S10000.Idx → EReal) (ix1 i) = (W main_v39 : S10000.Idx → EReal) (ix1 i) := by
  after_reads_at
theorem v62_read (i : Fin 5000) : (upto (hostOps0_16 (F := Ideal)) W 14 (Proc.devRef .tc main_v62) : S5000.Idx → EReal) (ix1 i) = scoreP (inZ W i) := by
  after_reads_at
  rfl
theorem v66_at (q : Fin 15000) : (after (hostOps0_16 (F := Ideal)) W main_v66 : S15000.Idx → BitVec 1) (ix1 q) =
    BitVec.ofBool (decide (minScore < (after (hostOps0_16 (F := Ideal)) W main_v64 : S15000.Idx → EReal) (ix1 q))) := by
  rw [v64_at]
  after_reads_at
  exact congrArg (fun x : EReal => BitVec.ofBool (decide (minScore < x))) (dite_congr rfl (fun h => v39_keep W _) fun h => v62_read W _)

/-- The contents once boxes and scores are put together. -/
abbrev U17 : Valuation τ sig (Elt Ideal) := after (hostOps0_16 (F := Ideal)) (U16 W)

theorem arg1_keep (i : Fin 5000) (d : Fin 4) : inY (U16 W) i d = inY W i d := by
  unfold U16 inY
  simp only [afterL_cons, afterL_nil]
  after_reads_simp
theorem arg2_keep (i : Fin 5000) : inZ (U16 W) i = inZ W i := by
  unfold U16 inZ
  simp only [afterL_cons, afterL_nil]
  after_reads_simp

theorem boxes_at (q : Fin 15000) (d : Fin 4) : (U17 W main_v63 : S15000x4.Idx → EReal) (ix2 q d) = box (inX W) (inY W) q d := by
  unfold box
  match d with
  | 0 => exact (v63_0 (U16 W) q).trans (dite_congr rfl (fun h => v42_at W _) fun h => arg1_keep W _ _)
  | 1 => exact (v63_1 (U16 W) q).trans (dite_congr rfl (fun h => v45_at W _) fun h => arg1_keep W _ _)
  | 2 => exact (v63_2 (U16 W) q).trans (dite_congr rfl (fun h => v48_at W _) fun h => arg1_keep W _ _)
  | 3 => exact (v63_3 (U16 W) q).trans (dite_congr rfl (fun h => v51_at W _) fun h => arg1_keep W _ _)

theorem score_at (q : Fin 15000) : (U17 W main_v64 : S15000.Idx → EReal) (ix1 q) = score (inX W) (inZ W) q := by
  unfold score
  exact (v64_at (U16 W) q).trans (dite_congr rfl (fun h => v39_at W _) fun h => congrArg scoreP (arg2_keep W _))

theorem valid_at (q : Fin 15000) : (U17 W main_v66 : S15000.Idx → BitVec 1) (ix1 q) = 1#1 ↔ valid (inX W) (inZ W) q := by
  have e := v66_at (U16 W) q
  rw [show (after (hostOps0_16 (F := Ideal)) (U16 W) main_v64 : S15000.Idx → EReal) (ix1 q) = _ from score_at W q] at e
  rw [show (U17 W main_v66 : S15000.Idx → BitVec 1) (ix1 q) = _ from e]
  exact WordCmp.ofBool_decide_eq_one_iff _

end Cert.Proof.RI
end
-- ==== Proof.RISort.lean ====
module

public import proofs.«01_k».proof.Proof.KIItem
public import proofs.«01_k».proof.Proof.Gather
public import proofs.«01_k».proof.Proof.Spec
public import proofs.«01_k».proof.Proof.RILoop
public import Idealize.ShloMosaic.Lib.StableHlo.ReadAt
public import Idealize.ShloMosaic.Lib.Pointwise

@[expose] public section

set_option maxRecDepth 16384
set_option maxHeartbeats 4000000

noncomputable section

/-! The reference's order and its sorted tables, at a place. -/

namespace Cert.Proof.RI

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.Proof.NMS
open Cert.Proof.KI (area inter iou thr tiny bit width height share scoreC scoreP keyOf logit minScore)

variable (W : Valuation τ sig (Elt Ideal))

/-- A number, read as one. -/
abbrev num (x : EReal) : EReal := x

theorem const16 : (after (hostOps0_16 (F := Ideal)) W main_cst_17 : S_.Idx → EReal) ix0 = KI.minusInf := by
  after_reads_simp
  rfl
theorem const20 : (after (hostOps0_20 (F := Ideal)) W main_cst_19 : S_.Idx → EReal) ix0 = num 0 := by
  after_reads_simp
  exact zero_at

/-- The sorting keys. -/
theorem key_at (hc : (W main_cst_17 : S_.Idx → EReal) ix0 = KI.minusInf) (q : Fin 15000) : (afterL [hostOps0_17 (F := Ideal), hostOps0_18] W main_v68 : S15000.Idx → EReal) (ix1 q) =
    -(if (W main_v66 : S15000.Idx → BitVec 1) (ix1 q) = 1#1 then num ((W main_v64 : S15000.Idx → EReal) (ix1 q)) else KI.minusInf) := by
  simp only [afterL_cons, afterL_nil]
  after_reads_at
  refine congrArg (fun x : EReal => -x) ?_
  rw [KI.select_eq]
  exact congrArg (fun z : EReal => if (W main_v66 : S15000.Idx → BitVec 1) (ix1 q) = 1#1 then num ((W main_v64 : S15000.Idx → EReal) (ix1 q)) else z) hc

theorem cmp_f (a b : EReal) (u w : BitVec 32) : (comparator_f32_i32_d0 (F := Ideal) (a, u) (b, w) == 1#1) = decide (a < b) := by
  unfold comparator_f32_i32_d0
  have h0 : (FloatOps.ofBits (F := Ideal) FTy.f32 0x00000000#32 : EReal) = 0 := by pointwise
  have e : ∀ x : EReal, Scalar.select (FloatOps.cmpf (F := Ideal) (φ := .f32) .une x x) (FloatOps.ofBits (F := Ideal) FTy.f32 0x7FC00000#32)
      (Scalar.select (FloatOps.cmpf (F := Ideal) (φ := .f32) .oeq x (FloatOps.ofBits (F := Ideal) FTy.f32 0x00000000#32)) (FloatOps.ofBits (F := Ideal) FTy.f32 0x00000000#32) x) = x := fun x => by
    have h1 : FloatOps.cmpf (F := Ideal) (φ := .f32) .une x x = 0#1 := by
      show BitVec.ofBool (decide (x ≠ x)) = 0#1
      simp
    rw [h1]
    show Scalar.select (BitVec.ofBool (decide (x = FloatOps.ofBits (F := Ideal) FTy.f32 0x00000000#32))) _ _ = x
    by_cases h : x = FloatOps.ofBits (F := Ideal) FTy.f32 0x00000000#32
    · rw [decide_eq_true h]; exact h.symm
    · rw [decide_eq_false h]; rfl
  dsimp only
  rw [e, e]
  show (BitVec.ofBool (decide (a < b)) == 1#1) = decide (a < b)
  by_cases h : a < b <;> simp [h]

theorem order_at (p : Fin 15000) : (after (hostOps0_19 (F := Ideal)) W main_v69 : S15000.Idx → BitVec 32) (ix1 p) =
    BitVec.ofNat 32 (ord (fun k => (W main_v68 : S15000.Idx → EReal) (ix1 k)) p).val := by
  after_reads_simp
  simp -implicitDefEqProofs only [StableHlo.TRef.toBuf, StableHlo.TRef.ofBuf, cast_cast, cast_eq]
  refine (sort2_snd _ _ _ _ (fun k k' => cmp_f _ _ _ _) p).trans ?_
  rfl

/-- The index words of the gathers and of the scatter. -/
theorem index20 (p : Fin 15000) (i : ℕ) (hi : i < 2 ^ 31) (h : (W main_v69 : S15000.Idx → BitVec 32) (ix1 p) = BitVec.ofNat 32 i) :
    (after (hostOps0_20 (F := Ideal)) W main_v75 : S15000x1.Idx → BitVec 32) (ix2 p 0) = BitVec.ofNat 32 i := by
  after_reads_at
  rw [h]
  exact wrap_small 15000 i hi
theorem index24 (p : Fin 15000) (i : ℕ) (hi : i < 2 ^ 31) (h : (W main_v69 : S15000.Idx → BitVec 32) (ix1 p) = BitVec.ofNat 32 i) :
    (after (hostOps0_24 (F := Ideal)) W main_v95 : S15000x1.Idx → BitVec 32) (ix2 p 0) = BitVec.ofNat 32 i := by
  after_reads_at
  rw [h]
  exact wrap_small 15000 i hi
theorem index25 (p : Fin 15000) (i : ℕ) (hi : i < 2 ^ 31) (h : (W main_v69 : S15000.Idx → BitVec 32) (ix1 p) = BitVec.ofNat 32 i) :
    (after (hostOps0_25 (F := Ideal)) W main_v105 : S15000x1.Idx → BitVec 32) (ix2 p 0) = BitVec.ofNat 32 i := by
  after_reads_at
  rw [h]
  exact wrap_small 15000 i hi

theorem gathered20_eq : (after (hostOps0_20 (F := Ideal)) W main_v76 : S15000x4.Idx → EReal) =
    Host.gather gather_S15000x4_S15000x1_S15000x4_1_0_n_n_0_1_14 (W main_v63 : S15000x4.Idx → EReal) (after (hostOps0_20 (F := Ideal)) W main_v75 : S15000x1.Idx → BitVec 32) := by
  after_reads_simp
theorem gathered24_eq : (after (hostOps0_24 (F := Ideal)) W main_v98_5 : S15000.Idx → BitVec 1) =
    Host.gather gather_S15000_S15000x1_S15000_n_0_n_n_0_1_1 (W main_v66 : S15000.Idx → BitVec 1) (after (hostOps0_24 (F := Ideal)) W main_v95 : S15000x1.Idx → BitVec 32) := by
  after_reads_simp
  rfl

variable (key : Fin 15000 → EReal) (h : ∀ p, (W main_v69 : S15000.Idx → BitVec 32) (ix1 p) = BitVec.ofNat 32 (ord key p).val)

include h in
theorem boxes20 (p : Fin 15000) (d : Fin 4) : (after (hostOps0_20 (F := Ideal)) W main_v76 : S15000x4.Idx → EReal) (ix2 p d) = (W main_v63 : S15000x4.Idx → EReal) (ix2 (ord key p) d) := by
  rw [gathered20_eq]
  exact Routing.gather_row gather_S15000x4_S15000x1_S15000x4_1_0_n_n_0_1_14 rfl rfl rfl rfl rfl _ _ p d _ (index20 W p _ (by have := (ord key p).isLt; omega) (h p)) (by norm_num)
include h in
theorem valid24 (p : Fin 15000) : (after (hostOps0_24 (F := Ideal)) W main_v98_5 : S15000.Idx → BitVec 1) (ix1 p) = (W main_v66 : S15000.Idx → BitVec 1) (ix1 (ord key p)) := by
  rw [gathered24_eq]
  exact Routing.gather_take1 gather_S15000_S15000x1_S15000_n_0_n_n_0_1_1 rfl rfl rfl rfl _ _ p _ (index24 W p _ (by have := (ord key p).isLt; omega) (h p)) (by norm_num)

theorem width20 (p : Fin 15000) : (after (hostOps0_20 (F := Ideal)) W main_v81 : S15000.Idx → EReal) (ix1 p) =
    num ((after (hostOps0_20 (F := Ideal)) W main_v76 : S15000x4.Idx → EReal) (ix2 p 2)) - num ((after (hostOps0_20 (F := Ideal)) W main_v76 : S15000x4.Idx → EReal) (ix2 p 0)) := by
  have e : (after (hostOps0_20 (F := Ideal)) W main_v81 : S15000.Idx → EReal) =
      subf (F := Ideal) (φ := .f32) (shapeCast S15000 (extractStridedSlice S15000x1 ![0, 2] (after (hostOps0_20 (F := Ideal)) W main_v76 : S15000x4.Idx → EReal) slices_S15000x4_S15000x1_0_2) shapeCasts_S15000x1_S15000)
        (shapeCast S15000 (extractStridedSlice S15000x1 ![0, 0] (after (hostOps0_20 (F := Ideal)) W main_v76 : S15000x4.Idx → EReal) slices_S15000x4_S15000x1_0_0) shapeCasts_S15000x1_S15000) := by
    after_reads_simp
    rfl
  rw [e]
  pointwise

theorem width21 (hc : (W main_cst_19 : S_.Idx → EReal) ix0 = num 0) (p : Fin 15000) : (after (hostOps0_21 (F := Ideal)) W main_v82 : S15000.Idx → EReal) (ix1 p) =
    max (num ((W main_v81 : S15000.Idx → EReal) (ix1 p))) 0 := by
  after_reads_at
  exact (congrArg (fun z : EReal => max z (num ((W main_v81 : S15000.Idx → EReal) (ix1 p)))) hc).trans (max_comm _ _)

theorem height22 (p : Fin 15000) : (after (hostOps0_22 (F := Ideal)) W main_v87 : S15000.Idx → EReal) (ix1 p) =
    num ((W main_v76 : S15000x4.Idx → EReal) (ix2 p 3)) - num ((W main_v76 : S15000x4.Idx → EReal) (ix2 p 1)) := by
  after_reads_at

theorem const22 : (after (hostOps0_22 (F := Ideal)) W main_cst_20 : S_.Idx → EReal) ix0 = num 0 := by
  after_reads_simp
  exact zero_at

theorem height23 (hc : (W main_cst_20 : S_.Idx → EReal) ix0 = num 0) (p : Fin 15000) : (after (hostOps0_23 (F := Ideal)) W main_v88 : S15000.Idx → EReal) (ix1 p) =
    max (num ((W main_v87 : S15000.Idx → EReal) (ix1 p))) 0 := by
  after_reads_at
  exact (congrArg (fun z : EReal => max z (num ((W main_v87 : S15000.Idx → EReal) (ix1 p)))) hc).trans (max_comm _ _)

theorem areas24 (p : Fin 15000) : (after (hostOps0_24 (F := Ideal)) W main_v98_1 : S15000.Idx → EReal) (ix1 p) =
    num ((W main_v82 : S15000.Idx → EReal) (ix1 p)) * num ((W main_v88 : S15000.Idx → EReal) (ix1 p)) := by
  after_reads_at
  rfl

theorem boxes24 : (after (hostOps0_24 (F := Ideal)) W main_v98_0 : S15000x4.Idx → EReal) = W main_v76 := by
  after_reads_simp
  rfl
theorem counter24 : (after (hostOps0_24 (F := Ideal)) W main_v98_4 : IVec S_ 32) = constantI S_ 32 (BitVec.ofNat 32 0) := by
  after_reads_simp
  rfl
theorem places24 (j : Fin 15000) : (after (hostOps0_24 (F := Ideal)) W main_v98_2 : S15000.Idx → BitVec 32) (ix1 j) = BitVec.ofNat 32 j.val := by
  after_reads_simp
  rfl

end Cert.Proof.RI
end
-- ==== Proof.RIPost.lean ====
module

public import proofs.«01_k».proof.Proof.KIItem
public import proofs.«01_k».proof.Proof.Gather
public import proofs.«01_k».proof.Proof.Spec
public import proofs.«01_k».proof.Proof.RISort
public import Idealize.ShloMosaic.Lib.StableHlo.ReadAt
public import Idealize.ShloMosaic.Lib.Pointwise

@[expose] public section

set_option maxRecDepth 16384
set_option maxHeartbeats 4000000

noncomputable section

/-! The reference's result from what the loop leaves. -/

namespace Cert.Proof.RI

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.Proof.NMS
open Cert.Proof.KI (area inter iou thr tiny bit width height share scoreC scoreP keyOf logit minScore)

variable (W : Valuation τ sig (Elt Ideal))

theorem scatter_eq : (after (hostOps0_25 (F := Ideal)) W main_v106 : S15000.Idx → BitVec 1) =
    Host.scatter scatter_S15000_S15000x1_S15000_n_0_0_1 (fun _ b => b) (after (hostOps0_25 (F := Ideal)) W main_v99 : S15000.Idx → BitVec 1)
      (after (hostOps0_25 (F := Ideal)) W main_v105 : S15000x1.Idx → BitVec 32) (W main_v98_5 : S15000.Idx → BitVec 1) := by
  after_reads_simp
  rfl

/-- The number of an item's flag. -/
theorem number_eq : (after (hostOps0_25 (F := Ideal)) W main_v107 : S15000.Idx → EReal) =
    uitofp (F := Ideal) .f32 (after (hostOps0_25 (F := Ideal)) W main_v106 : S15000.Idx → BitVec 1) := by
  after_reads_simp

theorem logit26 (q : Fin 15000) : (afterL [hostOps0_25 (F := Ideal), hostOps0_26] W main_v108 : S15000.Idx → EReal) (ix1 q) =
    min KI.high (max KI.low (num ((W main_v64 : S15000.Idx → EReal) (ix1 q)))) := by
  simp only [afterL_cons, afterL_nil]
  after_reads_at
  rfl

/-- The result's box columns. -/
theorem result_0 (q : Fin 15000) : (after (hostOps0_27 (F := Ideal)) W main_v118 : S15000x5.Idx → EReal) (ix2 q 0) = num ((W main_v63 : S15000x4.Idx → EReal) (ix2 q 0)) * num ((W main_v107 : S15000.Idx → EReal) (ix1 q)) := by
  after_reads_at
theorem result_1 (q : Fin 15000) : (after (hostOps0_27 (F := Ideal)) W main_v118 : S15000x5.Idx → EReal) (ix2 q 1) = num ((W main_v63 : S15000x4.Idx → EReal) (ix2 q 1)) * num ((W main_v107 : S15000.Idx → EReal) (ix1 q)) := by
  after_reads_at
theorem result_2 (q : Fin 15000) : (after (hostOps0_27 (F := Ideal)) W main_v118 : S15000x5.Idx → EReal) (ix2 q 2) = num ((W main_v63 : S15000x4.Idx → EReal) (ix2 q 2)) * num ((W main_v107 : S15000.Idx → EReal) (ix1 q)) := by
  after_reads_at
theorem result_3 (q : Fin 15000) : (after (hostOps0_27 (F := Ideal)) W main_v118 : S15000x5.Idx → EReal) (ix2 q 3) = num ((W main_v63 : S15000x4.Idx → EReal) (ix2 q 3)) * num ((W main_v107 : S15000.Idx → EReal) (ix1 q)) := by
  after_reads_at

/-- The result's score column. -/
theorem result_4 (q : Fin 15000) : (after (hostOps0_27 (F := Ideal)) W main_v118 : S15000x5.Idx → EReal) (ix2 q 4) =
    (Ideal.log (num ((W main_v108 : S15000.Idx → EReal) (ix1 q))) - Ideal.log1p (-num ((W main_v108 : S15000.Idx → EReal) (ix1 q)))) * num ((W main_v107 : S15000.Idx → EReal) (ix1 q)) := by
  after_reads_at

/-- A one-bit word that is not one is zero. -/
theorem zero_of : ∀ b : BitVec 1, ¬b = 1#1 → b = 0#1 := by decide

variable (key : Fin 15000 → EReal) (h : ∀ p, (W main_v69 : S15000.Idx → BitVec 32) (ix1 p) = BitVec.ofNat 32 (ord key p).val)

include h in
/-- An item's flag is the one the loop leaves at its place. -/
theorem flag25 (q : Fin 15000) : (after (hostOps0_25 (F := Ideal)) W main_v106 : S15000.Idx → BitVec 1) (ix1 q) = (W main_v98_5 : S15000.Idx → BitVec 1) (ix1 (pos key q)) := by
  rw [scatter_eq]
  refine (Routing.scatter_set scatter_S15000_S15000x1_S15000_n_0_0_1 rfl rfl rfl _ _ _ (fun i => if hi : i < 15000 then (ord key ⟨i, hi⟩).val else 0) (fun i => ?_) (fun i => ?_) q _ (fun i hi => ?_)).1 ⟨pos key q, ?_⟩
  · rw [dif_pos i.isLt]
    exact index25 W i _ (by have := (ord key i).isLt; omega) (h i)
  · show (if hi : i.val < 15000 then (ord key ⟨i.val, hi⟩).val else 0) < 2 ^ 31
    rw [dif_pos i.isLt]
    have := (ord key ⟨i.val, i.isLt⟩).isLt
    omega
  · have e : (if hi : i.val < 15000 then (ord key ⟨i.val, hi⟩).val else 0) = q.val := hi
    rw [dif_pos i.isLt] at e
    have e' : i = pos key q := by rw [← show ord key i = q from Fin.ext e, pos_ord]
    rw [e']
    rfl
  · show (if hi : (pos key q).val < 15000 then (ord key ⟨(pos key q).val, hi⟩).val else 0) = q.val
    rw [dif_pos (pos key q).isLt]
    exact congrArg Fin.val (ord_pos key q)

include h in
/-- The number of an item's flag. -/
theorem number25 (v : Prop) (q : Fin 15000) (hv : (W main_v98_5 : S15000.Idx → BitVec 1) (ix1 (pos key q)) = 1#1 ↔ v) :
    (after (hostOps0_25 (F := Ideal)) W main_v107 : S15000.Idx → EReal) (ix1 q) = bit v := by
  rw [number_eq]
  show ((((after (hostOps0_25 (F := Ideal)) W main_v106 : S15000.Idx → BitVec 1) (ix1 q)).toNat : ℝ) : EReal) = bit v
  rw [flag25 W key h]
  generalize (W main_v98_5 : S15000.Idx → BitVec 1) (ix1 (pos key q)) = b at hv
  by_cases hb : b = 1#1
  · rw [KI.bit_one (hv.mp hb), hb]; simp
  · have hb0 : b = 0#1 := zero_of b hb
    rw [KI.bit_zero (fun x => hb (hv.mpr x)), hb0]; simp

end Cert.Proof.RI
end
-- ==== Proof.RITrips.lean ====
module

public import proofs.«01_k».proof.Proof.RILoop

@[expose] public section

set_option maxRecDepth 16384
set_option maxHeartbeats 4000000

noncomputable section

/-! The reference's suppression loop, after any number of trips. -/

namespace Cert.Proof.RI

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.Proof.KI (area inter iou thr tiny bit Keep Upto upto_keep upto_add keep_iff)
open Cert.Proof.NMS

variable (V0 : Valuation τ sig (Elt Ideal))
variable (B : Fin 15000 → Fin 4 → EReal) (hB : ∀ j d, (V0 main_v98_0 : S15000x4.Idx → EReal) (ix2 j d) = B j d)
variable (A : Fin 15000 → EReal) (hA : ∀ j, (V0 main_v98_1 : S15000.Idx → EReal) (ix1 j) = A j)
variable (hx : ∀ j : Fin 15000, (V0 main_v98_2 : S15000.Idx → BitVec 32) (ix1 j) = BitVec.ofNat 32 j.val)
variable (h4 : (V0 main_v98_4 : IVec S_ 32) = constantI S_ 32 (BitVec.ofNat 32 0))
variable (v : Fin 15000 → Prop) (h5 : ∀ j, (V0 main_v98_5 : S15000.Idx → BitVec 1) (ix1 j) = 1#1 ↔ v j)

/-- The loop's suppression relation. -/
def SB (B : Fin 15000 → Fin 4 → EReal) (A : Fin 15000 → EReal) (i j : Fin 15000) : Prop :=
  thr < iou (B i 0) (B i 1) (B i 2) (B i 3) (A i) (B j 0) (B j 1) (B j 2) (B j 3) (A j)

include hB hA hx h4 h5 in
/-- After k trips the counter is k, the tables are as they were, and an item's flag is set just if nothing kept before place k suppresses it. -/
theorem trips (k : ℕ) (hk : k ≤ 15000) :
    (STEP^[k] V0 main_v98_0 : S15000x4.Idx → EReal) = V0 main_v98_0 ∧
    (STEP^[k] V0 main_v98_1 : S15000.Idx → EReal) = V0 main_v98_1 ∧
    (STEP^[k] V0 main_v98_2 : S15000.Idx → BitVec 32) = V0 main_v98_2 ∧
    (STEP^[k] V0 main_v98_4 : IVec S_ 32) = constantI S_ 32 (BitVec.ofNat 32 k) ∧
    ∀ j, (STEP^[k] V0 main_v98_5 : S15000.Idx → BitVec 1) (ix1 j) = 1#1 ↔ Upto v (SB B A) k j := by
  induction k with
  | zero =>
    refine ⟨rfl, rfl, rfl, h4, fun j => ?_⟩
    exact (h5 j).trans (KI.upto_zero _).symm
  | succ k ih =>
    obtain ⟨i0, i1, i2, i4, i5⟩ := ih (by omega)
    rw [Function.iterate_succ_apply']
    refine ⟨(STEP_main_v98_0 _).trans i0, (STEP_main_v98_1 _).trans i1, (STEP_main_v98_2 _).trans i2, ?_, fun j => ?_⟩
    · refine (STEP_main_v98_4 _).trans ?_
      unfold step_main_v98_4
      rw [i4]
      funext e
      show BitVec.ofNat 32 k + 1#32 = BitVec.ofNat 32 (k + 1)
      rw [BitVec.ofNat_add]
    · have e := STEP_main_v98_5 (STEP^[k] V0)
      rw [e]
      refine (keep_at (STEP^[k] V0) ⟨k, by omega⟩ i4 B (fun j d => by rw [i0]; exact hB j d) A (fun j => by rw [i1]; exact hA j) (fun j => by rw [i2]; exact hx j) j).trans ?_
      rw [i5, i5]
      have ea := upto_add (v := v) (S := SB B A) k 1 j
      refine Iff.trans ?_ ea.symm
      refine and_congr Iff.rfl ⟨fun h i hij h1 h2 h3 hs => ?_, fun h h' => ?_⟩
      · have e : i = ⟨k, by omega⟩ := Fin.ext (by show i.val = k; omega)
        rw [e] at hij h3 hs
        exact h ⟨⟨hs, hij⟩, (upto_keep _ (le_refl _)).mpr h3⟩
      · exact h ⟨k, by omega⟩ h'.1.2 (le_refl _) (Nat.lt_succ_self _) ((upto_keep _ (le_refl _)).mp h'.2) h'.1.1

end Cert.Proof.RI
end
-- ==== Proof.RIResult.lean ====
module

public import proofs.«01_k».proof.Proof.RIPre
public import proofs.«01_k».proof.Proof.RIPost
public import proofs.«01_k».proof.Proof.RITrips
public import proofs.«01_k».proof.Proof.RIFrame

@[expose] public section

set_option maxRecDepth 16384
set_option maxHeartbeats 4000000

noncomputable section

/-! The reference's result is what the items' boxes, scores and overlaps give. -/

namespace Cert.Proof.RI

open Cert.ReferenceIdeal Cert.ReferenceIdeal.Gen Cert.ReferenceIdeal.Value
open Idealize.ShloMosaic Idealize.ShloMosaic.TcCoe Idealize.ShloMosaic.Tactic
open Idealize.ShloMosaic.StableHlo
open Idealize.SL Idealize.SL.Sem
open Cert.Proof.NMS
open Cert.Proof.KI (area inter iou thr tiny bit width height share scoreC scoreP keyOf logit minScore Keep Upto)

variable (L : Valuation τ sig (Elt Ideal))

/-- The contents after each stretch up to the loop. -/
def U19 : Valuation τ sig (Elt Ideal) := afterL [hostOps0_17 (F := Ideal), hostOps0_18] (U17 L)
def U20 : Valuation τ sig (Elt Ideal) := after (hostOps0_19 (F := Ideal)) (U19 L)
def U21 : Valuation τ sig (Elt Ideal) := after (hostOps0_20 (F := Ideal)) (U20 L)
def U22 : Valuation τ sig (Elt Ideal) := after (hostOps0_21 (F := Ideal)) (U21 L)
def U23 : Valuation τ sig (Elt Ideal) := after (hostOps0_22 (F := Ideal)) (U22 L)
def U24 : Valuation τ sig (Elt Ideal) := after (hostOps0_23 (F := Ideal)) (U23 L)
def U25 : Valuation τ sig (Elt Ideal) := after (hostOps0_24 (F := Ideal)) (U24 L)

theorem keep19 {r : Ref sig .tc} (h : r ∉ hostOps0_17_W) (h' : r ∉ hostOps0_18_W) : U19 L (Proc.devRef .tc r) = U17 L (Proc.devRef .tc r) :=
  afterL_spares (spares_cons hostOps0_17_writes h (spares_cons hostOps0_18_writes h' (spares_nil r))) (U17 L)
theorem keep20 {r : Ref sig .tc} (h : r ∉ hostOps0_19_W) : U20 L (Proc.devRef .tc r) = U19 L (Proc.devRef .tc r) := after_of_writes_sub _ _ hostOps0_19_writes h
theorem keep21 {r : Ref sig .tc} (h : r ∉ hostOps0_20_W) : U21 L (Proc.devRef .tc r) = U20 L (Proc.devRef .tc r) := after_of_writes_sub _ _ hostOps0_20_writes h
theorem keep22 {r : Ref sig .tc} (h : r ∉ hostOps0_21_W) : U22 L (Proc.devRef .tc r) = U21 L (Proc.devRef .tc r) := after_of_writes_sub _ _ hostOps0_21_writes h
theorem keep23 {r : Ref sig .tc} (h : r ∉ hostOps0_22_W) : U23 L (Proc.devRef .tc r) = U22 L (Proc.devRef .tc r) := after_of_writes_sub _ _ hostOps0_22_writes h
theorem keep24 {r : Ref sig .tc} (h : r ∉ hostOps0_23_W) : U24 L (Proc.devRef .tc r) = U23 L (Proc.devRef .tc r) := after_of_writes_sub _ _ hostOps0_23_writes h
theorem keep25 {r : Ref sig .tc} (h : r ∉ hostOps0_24_W) : U25 L (Proc.devRef .tc r) = U24 L (Proc.devRef .tc r) := after_of_writes_sub _ _ hostOps0_24_writes h
/-- A reference the last five stretches leave alone. -/
theorem keep_late {r : Ref sig .tc} (h0 : r ∉ hostOps0_20_W) (h1 : r ∉ hostOps0_21_W) (h2 : r ∉ hostOps0_22_W) (h3 : r ∉ hostOps0_23_W) :
    U24 L (Proc.devRef .tc r) = U20 L (Proc.devRef .tc r) :=
  (keep24 L h3).trans ((keep23 L h2).trans ((keep22 L h1).trans (keep21 L h0)))

/-- The items' keys. -/
abbrev kk : Fin 15000 → EReal := skey (inX L) (inZ L)

theorem key19 (q : Fin 15000) : (U19 L main_v68 : S15000.Idx → EReal) (ix1 q) = kk L q := by
  refine (key_at (U17 L) (const16 (U16 L)) q).trans ?_
  unfold kk skey keyOf
  refine congrArg (fun x : EReal => -x) ?_
  by_cases hv : valid (inX L) (inZ L) q
  · rw [if_pos ((valid_at L q).mpr hv)]
    exact (score_at L q).trans (if_pos hv).symm
  · rw [if_neg (fun x => hv ((valid_at L q).mp x))]
    exact (if_neg hv).symm

/-- The order the keys are sorted in. -/
theorem order20 (p : Fin 15000) : (U20 L main_v69 : S15000.Idx → BitVec 32) (ix1 p) = BitVec.ofNat 32 (ord (kk L) p).val :=
  (order_at (U19 L) p).trans (congrArg (fun k => BitVec.ofNat 32 (ord k p).val) (funext (key19 L)))
theorem order24 (p : Fin 15000) : (U24 L main_v69 : S15000.Idx → BitVec 32) (ix1 p) = BitVec.ofNat 32 (ord (kk L) p).val :=
  (congrFun (keep_late L (r := main_v69) (by decide) (by decide) (by decide) (by decide)) (ix1 p)).trans (order20 L p)

/-- The sorted boxes and their areas. -/
abbrev bb (p : Fin 15000) (d : Fin 4) : EReal := box (inX L) (inY L) (ord (kk L) p) d
abbrev aa (p : Fin 15000) : EReal := area (bb L p 0) (bb L p 1) (bb L p 2) (bb L p 3)

theorem boxes21 (p : Fin 15000) (d : Fin 4) : (U21 L main_v76 : S15000x4.Idx → EReal) (ix2 p d) = bb L p d :=
  (boxes20 (U20 L) (kk L) (order20 L) p d).trans
    ((congrFun ((keep20 L (r := main_v63) (by decide)).trans (keep19 L (r := main_v63) (by decide) (by decide))) (ix2 (ord (kk L) p) d)).trans (boxes_at L _ d))
theorem boxes22 (p : Fin 15000) (d : Fin 4) : (U22 L main_v76 : S15000x4.Idx → EReal) (ix2 p d) = bb L p d :=
  (congrFun (keep22 L (r := main_v76) (by decide)) (ix2 p d)).trans (boxes21 L p d)
theorem boxes_24 (p : Fin 15000) (d : Fin 4) : (U24 L main_v76 : S15000x4.Idx → EReal) (ix2 p d) = bb L p d :=
  (congrFun ((keep24 L (r := main_v76) (by decide)).trans (keep23 L (r := main_v76) (by decide))) (ix2 p d)).trans (boxes22 L p d)
theorem boxes25 (p : Fin 15000) (d : Fin 4) : (U25 L main_v98_0 : S15000x4.Idx → EReal) (ix2 p d) = bb L p d :=
  (congrFun (boxes24 (U24 L)) (ix2 p d)).trans (boxes_24 L p d)

theorem w21 (p : Fin 15000) : (U21 L main_v81 : S15000.Idx → EReal) (ix1 p) = bb L p 2 - bb L p 0 :=
  (width20 (U20 L) p).trans (congrArg₂ (fun a b : EReal => a - b) (boxes21 L p 2) (boxes21 L p 0))
theorem w22 (p : Fin 15000) : (U22 L main_v82 : S15000.Idx → EReal) (ix1 p) = max (bb L p 2 - bb L p 0) 0 :=
  (width21 (U21 L) (const20 (U20 L)) p).trans (congrArg (fun a : EReal => max a 0) (w21 L p))
theorem w24 (p : Fin 15000) : (U24 L main_v82 : S15000.Idx → EReal) (ix1 p) = max (bb L p 2 - bb L p 0) 0 :=
  (congrFun ((keep24 L (r := main_v82) (by decide)).trans (keep23 L (r := main_v82) (by decide))) (ix1 p)).trans (w22 L p)
theorem h23 (p : Fin 15000) : (U23 L main_v87 : S15000.Idx → EReal) (ix1 p) = bb L p 3 - bb L p 1 :=
  (height22 (U22 L) p).trans (congrArg₂ (fun a b : EReal => a - b) (boxes22 L p 3) (boxes22 L p 1))
theorem h24 (p : Fin 15000) : (U24 L main_v88 : S15000.Idx → EReal) (ix1 p) = max (bb L p 3 - bb L p 1) 0 :=
  (height23 (U23 L) (const22 (U22 L)) p).trans (congrArg (fun a : EReal => max a 0) (h23 L p))
theorem areas25 (p : Fin 15000) : (U25 L main_v98_1 : S15000.Idx → EReal) (ix1 p) = aa L p :=
  (areas24 (U24 L) p).trans (congrArg₂ (fun a b : EReal => a * b) (w24 L p) (h24 L p))

/-- A place's flag at the loop's entry. -/
theorem valid25 (p : Fin 15000) : (U25 L main_v98_5 : S15000.Idx → BitVec 1) (ix1 p) = 1#1 ↔ valid (inX L) (inZ L) (ord (kk L) p) := by
  rw [show (U25 L main_v98_5 : S15000.Idx → BitVec 1) (ix1 p) = (U17 L main_v66 : S15000.Idx → BitVec 1) (ix1 (ord (kk L) p)) from
    (valid24 (U24 L) (kk L) (order24 L) p).trans (congrFun ((keep_late L (r := main_v66) (by decide) (by decide) (by decide) (by decide)).trans
      ((keep20 L (r := main_v66) (by decide)).trans (keep19 L (r := main_v66) (by decide) (by decide)))) (ix1 (ord (kk L) p)))]
  exact valid_at L _

/-- An item's flag after the loop is set just if it is chosen. -/
theorem chosen_flag (q : Fin 15000) : (STEP^[15000] (U25 L) main_v98_5 : S15000.Idx → BitVec 1) (ix1 (pos (kk L) q)) = 1#1 ↔ chosen (inX L) (inY L) (inZ L) q := by
  rw [(trips (U25 L) (bb L) (boxes25 L) (aa L) (areas25 L) (places24 (U24 L)) (counter24 (U24 L)) (fun p => valid (inX L) (inZ L) (ord (kk L) p)) (valid25 L) 15000 le_rfl).2.2.2.2,
    KI.upto_keep _ (le_of_lt (pos (kk L) q).isLt)]
  exact Iff.rfl

variable (m : (ℓ : Loc nD τ sig) → Buf (Elt Ideal) ℓ) (c : Dev nD)

/-- The contents once the loop has ended. -/
def P : Valuation τ sig (Elt Ideal) := after condOps (atK m 15000 c)
/-- The contents at launch. -/
abbrev L0 : Valuation τ sig (Elt Ideal) := launchContents m c

theorem entry_eq : entryContents (F := Ideal) preI m c = U25 (L0 m c) := rfl

theorem P_spares {r : Ref sig .tc} (hb : r ∉ bodyW) (hc : r ∉ condOps_W) : P m c (Proc.devRef .tc r) = U25 (L0 m c) (Proc.devRef .tc r) :=
  (after_of_writes_sub _ _ condOps_writes hc).trans ((atK_spares m hb hc c 15000).trans (congrFun (entry_eq m c) _))

theorem P_order (p : Fin 15000) : (P m c main_v69 : S15000.Idx → BitVec 32) (ix1 p) = BitVec.ofNat 32 (ord (kk (L0 m c)) p).val :=
  (congrFun ((P_spares m c (r := main_v69) (by decide) (by decide)).trans (keep25 (L0 m c) (r := main_v69) (by decide))) (ix1 p)).trans (order24 _ p)
theorem P_flag (q : Fin 15000) : (P m c main_v98_5 : S15000.Idx → BitVec 1) (ix1 (pos (kk (L0 m c)) q)) = 1#1 ↔ chosen (inX (L0 m c)) (inY (L0 m c)) (inZ (L0 m c)) q := by
  rw [show (P m c main_v98_5 : S15000.Idx → BitVec 1) = STEP^[15000] (U25 (L0 m c)) main_v98_5 from
    (after_of_writes_sub _ _ condOps_writes (show main_v98_5 ∉ condOps_W by decide)).trans ((atK_agree m c 15000 main_v98_5 (by decide)).trans
      (congrArg (fun V => STEP^[15000] V (Proc.devRef .tc main_v98_5)) (entry_eq m c)))]
  exact chosen_flag _ q
theorem P_early {r : Ref sig .tc} (hb : r ∉ bodyW) (hc : r ∉ condOps_W) (h7 : r ∉ hostOps0_17_W) (h8 : r ∉ hostOps0_18_W) (h9 : r ∉ hostOps0_19_W)
    (h0 : r ∉ hostOps0_20_W) (h1 : r ∉ hostOps0_21_W) (h2 : r ∉ hostOps0_22_W) (h3 : r ∉ hostOps0_23_W) (h4 : r ∉ hostOps0_24_W) :
    P m c (Proc.devRef .tc r) = U17 (L0 m c) (Proc.devRef .tc r) :=
  (P_spares m c hb hc).trans ((keep25 _ h4).trans ((keep_late _ h0 h1 h2 h3).trans ((keep20 _ h9).trans (keep19 _ h7 h8))))
theorem P_boxes (q : Fin 15000) (d : Fin 4) : (P m c main_v63 : S15000x4.Idx → EReal) (ix2 q d) = box (inX (L0 m c)) (inY (L0 m c)) q d :=
  (congrFun (P_early m c (r := main_v63) (by decide) (by decide) (by decide) (by decide) (by decide) (by decide) (by decide) (by decide) (by decide) (by decide)) (ix2 q d)).trans (boxes_at _ q d)
theorem P_score (q : Fin 15000) : (P m c main_v64 : S15000.Idx → EReal) (ix1 q) = score (inX (L0 m c)) (inZ (L0 m c)) q :=
  (congrFun (P_early m c (r := main_v64) (by decide) (by decide) (by decide) (by decide) (by decide) (by decide) (by decide) (by decide) (by decide) (by decide)) (ix1 q)).trans (score_at _ q)

/-- The contents before the last stretch. -/
def P27 : Valuation τ sig (Elt Ideal) := afterL [hostOps0_25 (F := Ideal), hostOps0_26] (P m c)

theorem P27_boxes (q : Fin 15000) (d : Fin 4) : (P27 m c main_v63 : S15000x4.Idx → EReal) (ix2 q d) = box (inX (L0 m c)) (inY (L0 m c)) q d :=
  (congrFun (afterL_spares (r := main_v63) (spares_cons writes25 (by decide) (spares_cons writes26 (by decide) (spares_nil _))) (P m c)) (ix2 q d)).trans (P_boxes m c q d)
theorem P27_bit (q : Fin 15000) : (P27 m c main_v107 : S15000.Idx → EReal) (ix1 q) = bit (chosen (inX (L0 m c)) (inY (L0 m c)) (inZ (L0 m c)) q) :=
  (congrFun (after_of_writes_sub _ (after (hostOps0_25 (F := Ideal)) (P m c)) writes26 (show main_v107 ∉ W26 by decide)) (ix1 q)).trans
    (number25 (P m c) (kk (L0 m c)) (P_order m c) _ q (P_flag m c q))
theorem P27_clip (q : Fin 15000) : (P27 m c main_v108 : S15000.Idx → EReal) (ix1 q) = min KI.high (max KI.low (score (inX (L0 m c)) (inZ (L0 m c)) q)) :=
  (logit26 (P m c) q).trans (congrArg (fun x : EReal => min KI.high (max KI.low x)) (P_score m c q))

/-- The reference's result. -/
abbrev out : S15000x5.Idx → EReal := finalContents (F := Ideal) condOps preI bodyI postI 15000 m c (Proc.devRef .tc main_v118)

theorem out_eq : out m c = (after (hostOps0_27 (F := Ideal)) (P27 m c) main_v118 : S15000x5.Idx → EReal) := rfl

/-- The reference's result, box columns. -/
theorem final_box (q : Fin 15000) (d : Fin 4) : out m c (ix2 q (d.castLE (by decide))) = outBox (inX (L0 m c)) (inY (L0 m c)) (inZ (L0 m c)) q d := by
  rw [out_eq]
  match d with
  | 0 => exact (result_0 (P27 m c) q).trans (congrArg₂ (fun a b : EReal => a * b) (P27_boxes m c q 0) (P27_bit m c q))
  | 1 => exact (result_1 (P27 m c) q).trans (congrArg₂ (fun a b : EReal => a * b) (P27_boxes m c q 1) (P27_bit m c q))
  | 2 => exact (result_2 (P27 m c) q).trans (congrArg₂ (fun a b : EReal => a * b) (P27_boxes m c q 2) (P27_bit m c q))
  | 3 => exact (result_3 (P27 m c) q).trans (congrArg₂ (fun a b : EReal => a * b) (P27_boxes m c q 3) (P27_bit m c q))

/-- The reference's result, score column. -/
theorem final_score (q : Fin 15000) : out m c (ix2 q 4) = outScore (inX (L0 m c)) (inY (L0 m c)) (inZ (L0 m c)) q := by
  rw [out_eq]
  exact (result_4 (P27 m c) q).trans (congrArg₂ (fun a b : EReal => (Ideal.log a - Ideal.log1p (-a)) * b) (P27_clip m c q) (P27_bit m c q))

end Cert.Proof.RI
end
-- ==== Proof.lean ====
/- The claims of this directory, assembled from the modules under Proof/. -/
module

public import proofs.«01_k».proof.Defs
public import proofs.«01_k».proof.Proof.Gen.KernelIdeal
public import proofs.«01_k».proof.Proof.Gen.ReferenceIdeal
public import proofs.«01_k».proof.Proof.KIRun
public import proofs.«01_k».proof.Proof.KIEnds
public import proofs.«01_k».proof.Proof.RIFrame
public import proofs.«01_k».proof.Proof.KISpec
public import proofs.«01_k».proof.Proof.RIResult

@[expose] public section

noncomputable section

namespace Cert.Proof

open Idealize.ShloMosaic Idealize.SL.Sem

/-- The kernel's exact reading terminates, its arguments unchanged and every counter at zero. -/
theorem kernelIdeal_frame : Cert.quiescent_KernelIdeal (hKernelIdeal := Cert.KernelIdeal.Gen.facts) := fun m ρ _ =>
  (θ_run _ _ _).mono (fun _ h => ⟨fun c => (h.1 c).2, h.2⟩) (KI.run m ρ fun c => KI.allEnd _ _ _ _ _ _)

/-- So does the reference's exact reading. -/
theorem referenceIdeal_frame : Cert.quiescent_ReferenceIdeal (hReferenceIdeal := Cert.ReferenceIdeal.Gen.facts) := fun m ρ _ =>
  (θ_run _ _ _).mono (fun _ h => ⟨fun c => (h.1 c).2, h.2⟩) (RI.run m ρ)

/-- Launched with the same arguments, the two results are equal element by element. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : RI.inX (RI.L0 m' c) = KI.in0 m c) (h1 : RI.inY (RI.L0 m' c) = KI.in1 m c) (h2 : RI.inZ (RI.L0 m' c) = KI.in2 m c)
    (q : Fin 15000) (d : Fin 5) :
    RI.out m' c (ix2 q d) = (Cert.KernelIdeal.Gen.V8 m (KI.outB m) c (Proc.devRef .tc Cert.KernelIdeal.main_v67) : Cert.KernelIdeal.S15000x5.Idx → EReal) (ix2 q d) := by
  by_cases hd : d.val < 4
  · have e := RI.final_box m' c q ⟨d.val, hd⟩
    rw [h0, h1, h2] at e
    exact e.trans (KI.final_box m c q ⟨d.val, hd⟩).symm
  · obtain rfl : d = 4 := Fin.ext (by have := d.isLt; show d.val = 4; omega)
    have e := RI.final_score m' c q
    rw [h0, h1, h2] at e
    exact e.trans (KI.final_score m c q).symm

/-- The kernel's exact reading gives the reference's result. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Gen.V8 m (KI.outB m) c (Proc.devRef .tc Cert.KernelIdeal.main_v67),
    (θ_run _ _ _).mono (fun _ h c => h.1 c) (KI.run m g fun c => KI.allEnd _ _ _ _ _ _),
    (θ_run _ _ _).mono (fun _ h c => ⟨(h.1 c).1.trans ?_, (h.1 c).2⟩) (RI.run m' g')⟩
  refine funext fun i => ?_
  rw [eq_ix2 i]
  exact results_eq m m' c (funext fun i => funext fun d => congrFun (hargs c).1 (ix2 i d)) (funext fun i => funext fun d => congrFun (hargs c).2.1 (ix2 i d))
    (funext fun i => congrFun (hargs c).2.2 (ix1 i)) (i 0) (i 1)

theorem claim : Cert.Claim := ⟨Cert.KernelIdeal.Gen.facts, Cert.ReferenceIdeal.Gen.facts,
  kernelIdeal_frame, referenceIdeal_frame, algebraic⟩

end Cert.Proof

end
